-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 4096]⟩ ⟨3, ![4, 4096, 4096]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x4096 : Shape := ⟨3, ![1, 4096, 4096]⟩
abbrev S4096x4096 : Shape := ⟨2, ![4096, 4096]⟩
abbrev S4096 : Shape := ⟨1, ![4096]⟩
abbrev S3x512x4096 : Shape := ⟨3, ![3, 512, 4096]⟩
abbrev S512x4096 : Shape := ⟨2, ![512, 4096]⟩
abbrev S3 : Shape := ⟨1, ![3]⟩
abbrev S4 : Shape := ⟨1, ![4]⟩
abbrev S_ : Shape := ⟨0, ![]⟩
abbrev S1 : Shape := ⟨1, ![1]⟩
abbrev S1x512x4096 : Shape := ⟨3, ![1, 512, 4096]⟩
abbrev S512 : Shape := ⟨1, ![512]⟩
abbrev S512x1 : Shape := ⟨2, ![512, 1]⟩
abbrev S1x4096 : Shape := ⟨2, ![1, 4096]⟩

abbrev nBuf : Space → Nat
  | .hbm => 4
  | .vmem => 4
  | .smem => 0
  | _ => 0

abbrev bufTy : (tb : Table) → Fin (tcTables nBuf tb) → BufTy
  | .hbm, ⟨0, _⟩ => ⟨S1x4096x4096, .f32⟩
  | .hbm, ⟨1, _⟩ => ⟨S4096x4096, .f32⟩
  | .hbm, ⟨2, _⟩ => ⟨S4096, .f32⟩
  | .hbm, ⟨3, _⟩ => ⟨S4096x4096, .f32⟩
  | .local _ .vmem, ⟨0, _⟩ => ⟨S4096, .f32⟩
  | .local _ .vmem, ⟨1, _⟩ => ⟨S3x512x4096, .f32⟩
  | .local _ .vmem, ⟨2, _⟩ => ⟨S512x4096, .f32⟩
  | .local _ .vmem, ⟨3, _⟩ => ⟨S512x4096, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2 : BitVec 32 := 16#32
  let v9 : BitVec 32 := Scalar.muli v2 c16_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c4_i32_4 : BitVec 32 := 4#32
  let v13 : BitVec 32 := Scalar.addi v5 c4_i32_4
  let c1_i32_5 : BitVec 32 := 1#32
  let v14 : BitVec 32 := Scalar.subi v13 c1_i32_5
  let c4_i32_6 : BitVec 32 := 4#32
  let v15 : BitVec 32 := Scalar.remsi v14 c4_i32_6
  let v16 : BitVec 32 := Scalar.subi v15 v5
  let c4_i32_7 : BitVec 32 := 4#32
  let v17 : BitVec 32 := Scalar.muli v16 c4_i32_7
  let v18 : BitVec 32 := Scalar.addi v12 v17
  v18.toNat
def k0_dev2 (d0 : Dev nD) : Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2 : BitVec 32 := 16#32
  let v9 : BitVec 32 := Scalar.muli v2 c16_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c1_i32_8 : BitVec 32 := 1#32
  let v19 : BitVec 32 := Scalar.addi v5 c1_i32_8
  let c4_i32_9 : BitVec 32 := 4#32
  let v20 : BitVec 32 := Scalar.remsi v19 c4_i32_9
  let v21 : BitVec 32 := Scalar.subi v20 v5
  let c4_i32_10 : BitVec 32 := 4#32
  let v22 : BitVec 32 := Scalar.muli v21 c4_i32_10
  let v23 : BitVec 32 := Scalar.addi v12 v22
  v23.toNat
def k0_dev3 (d0 : Dev nD) : Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2 : BitVec 32 := 16#32
  let v9 : BitVec 32 := Scalar.muli v2 c16_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c2_i32_11 : BitVec 32 := 2#32
  let v24 : BitVec 1 := Scalar.cmpi .slt v8 c2_i32_11
  let c2_i32_12 : BitVec 32 := 2#32
  let c_m2_i32 : BitVec 32 := 4294967294#32
  let v25 : BitVec 32 := Scalar.select v24 c2_i32_12 c_m2_i32
  let v26 : BitVec 32 := Scalar.addi v12 v25
  v26.toNat
def k0_off1 (d0 : Dev nD) : Fin 3 → Nat :=
  let c0_i32_30 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v28 : BitVec 1 := Scalar.cmpi .sgt v8 c0_i32
  let v29 : BitVec 32 := Scalar.extui v28
  let c0_i32_14 : BitVec 32 := 0#32
  let v30 : BitVec 1 := Scalar.cmpi .slt v8 c0_i32_14
  let v31 : BitVec 32 := Scalar.extui v30
  let v32 : BitVec 32 := Scalar.subi v29 v31
  let c2_i32_13 : BitVec 32 := 2#32
  let c0_i32_15 : BitVec 32 := 0#32
  let v33 : BitVec 1 := Scalar.cmpi .sgt c2_i32_13 c0_i32_15
  let v34 : BitVec 32 := Scalar.extui v33
  let c0_i32_16 : BitVec 32 := 0#32
  let v35 : BitVec 1 := Scalar.cmpi .slt c2_i32_13 c0_i32_16
  let v36 : BitVec 32 := Scalar.extui v35
  let v37 : BitVec 32 := Scalar.subi v34 v36
  let v38 : BitVec 1 := Scalar.cmpi .ne v32 v37
  let v39 : BitVec 32 := Scalar.remsi v8 c2_i32_13
  let c0_i32_17 : BitVec 32 := 0#32
  let v40 : BitVec 1 := Scalar.cmpi .ne v39 c0_i32_17
  let v41 : BitVec 1 := Scalar.andi v38 v40
  let v27 : BitVec 32 := Scalar.divsi v8 c2_i32_13
  let c1_i32_18 : BitVec 32 := 1#32
  let v42 : BitVec 32 := Scalar.subi v27 c1_i32_18
  let v43 : BitVec 32 := Scalar.select v41 v42 v27
  let c2048_i32 : BitVec 32 := 2048#32
  let v44 : BitVec 32 := Scalar.muli v43 c2048_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_24 : BitVec 32 := 0#32
  let v48 : BitVec 32 := Scalar.subi v5 c0_i32_24
  let c8_i32 : BitVec 32 := 8#32
  let v49 : BitVec 32 := Scalar.addi v48 c8_i32
  let c4_i32_25 : BitVec 32 := 4#32
  let v50 : BitVec 32 := Scalar.remsi v49 c4_i32_25
  let c512_i32 : BitVec 32 := 512#32
  let v55 : BitVec 32 := Scalar.muli v50 c512_i32
  let v56 : BitVec 32 := Scalar.addi v44 v55
  let c0_i32_36 : BitVec 32 := 0#32
  ![0, v56.toNat, 0]
def k0_dev4 (d0 : Dev nD) : Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2 : BitVec 32 := 16#32
  let v9 : BitVec 32 := Scalar.muli v2 c16_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c1_i32_8 : BitVec 32 := 1#32
  let v19 : BitVec 32 := Scalar.addi v5 c1_i32_8
  let c4_i32_9 : BitVec 32 := 4#32
  let v20 : BitVec 32 := Scalar.remsi v19 c4_i32_9
  let v21 : BitVec 32 := Scalar.subi v20 v5
  let c4_i32_10 : BitVec 32 := 4#32
  let v22 : BitVec 32 := Scalar.muli v21 c4_i32_10
  let v23 : BitVec 32 := Scalar.addi v12 v22
  v23.toNat
def k0_off2 (d0 : Dev nD) (c0_i32_27 : BitVec 32) : Fin 3 → Nat :=
  let c0_i32_38 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v28 : BitVec 1 := Scalar.cmpi .sgt v8 c0_i32
  let v29 : BitVec 32 := Scalar.extui v28
  let c0_i32_14 : BitVec 32 := 0#32
  let v30 : BitVec 1 := Scalar.cmpi .slt v8 c0_i32_14
  let v31 : BitVec 32 := Scalar.extui v30
  let v32 : BitVec 32 := Scalar.subi v29 v31
  let c2_i32_13 : BitVec 32 := 2#32
  let c0_i32_15 : BitVec 32 := 0#32
  let v33 : BitVec 1 := Scalar.cmpi .sgt c2_i32_13 c0_i32_15
  let v34 : BitVec 32 := Scalar.extui v33
  let c0_i32_16 : BitVec 32 := 0#32
  let v35 : BitVec 1 := Scalar.cmpi .slt c2_i32_13 c0_i32_16
  let v36 : BitVec 32 := Scalar.extui v35
  let v37 : BitVec 32 := Scalar.subi v34 v36
  let v38 : BitVec 1 := Scalar.cmpi .ne v32 v37
  let v39 : BitVec 32 := Scalar.remsi v8 c2_i32_13
  let c0_i32_17 : BitVec 32 := 0#32
  let v40 : BitVec 1 := Scalar.cmpi .ne v39 c0_i32_17
  let v41 : BitVec 1 := Scalar.andi v38 v40
  let v27 : BitVec 32 := Scalar.divsi v8 c2_i32_13
  let c1_i32_18 : BitVec 32 := 1#32
  let v42 : BitVec 32 := Scalar.subi v27 c1_i32_18
  let v43 : BitVec 32 := Scalar.select v41 v42 v27
  let c2048_i32 : BitVec 32 := 2048#32
  let v44 : BitVec 32 := Scalar.muli v43 c2048_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_26 : BitVec 32 := 1#32
  let v51 : BitVec 32 := Scalar.subi v5 c1_i32_26
  let v52 : BitVec 32 := Scalar.subi v51 c0_i32_27
  let c8_i32_28 : BitVec 32 := 8#32
  let v53 : BitVec 32 := Scalar.addi v52 c8_i32_28
  let c4_i32_29 : BitVec 32 := 4#32
  let v54 : BitVec 32 := Scalar.remsi v53 c4_i32_29
  let c512_i32_37 : BitVec 32 := 512#32
  let v65 : BitVec 32 := Scalar.muli v54 c512_i32_37
  let v66 : BitVec 32 := Scalar.addi v44 v65
  let c0_i32_39 : BitVec 32 := 0#32
  ![0, v66.toNat, 0]
def k0_dev5 (d0 : Dev nD) : Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2 : BitVec 32 := 16#32
  let v9 : BitVec 32 := Scalar.muli v2 c16_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c1_i32_8 : BitVec 32 := 1#32
  let v19 : BitVec 32 := Scalar.addi v5 c1_i32_8
  let c4_i32_9 : BitVec 32 := 4#32
  let v20 : BitVec 32 := Scalar.remsi v19 c4_i32_9
  let v21 : BitVec 32 := Scalar.subi v20 v5
  let c4_i32_10 : BitVec 32 := 4#32
  let v22 : BitVec 32 := Scalar.muli v21 c4_i32_10
  let v23 : BitVec 32 := Scalar.addi v12 v22
  v23.toNat
def k0_dev6 (d0 : Dev nD) : Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2 : BitVec 32 := 16#32
  let v9 : BitVec 32 := Scalar.muli v2 c16_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c1_i32_8 : BitVec 32 := 1#32
  let v19 : BitVec 32 := Scalar.addi v5 c1_i32_8
  let c4_i32_9 : BitVec 32 := 4#32
  let v20 : BitVec 32 := Scalar.remsi v19 c4_i32_9
  let v21 : BitVec 32 := Scalar.subi v20 v5
  let c4_i32_10 : BitVec 32 := 4#32
  let v22 : BitVec 32 := Scalar.muli v21 c4_i32_10
  let v23 : BitVec 32 := Scalar.addi v12 v22
  v23.toNat
def k0_off3 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v28 : BitVec 1 := Scalar.cmpi .sgt v8 c0_i32
  let v29 : BitVec 32 := Scalar.extui v28
  let c0_i32_14 : BitVec 32 := 0#32
  let v30 : BitVec 1 := Scalar.cmpi .slt v8 c0_i32_14
  let v31 : BitVec 32 := Scalar.extui v30
  let v32 : BitVec 32 := Scalar.subi v29 v31
  let c2_i32_13 : BitVec 32 := 2#32
  let c0_i32_15 : BitVec 32 := 0#32
  let v33 : BitVec 1 := Scalar.cmpi .sgt c2_i32_13 c0_i32_15
  let v34 : BitVec 32 := Scalar.extui v33
  let c0_i32_16 : BitVec 32 := 0#32
  let v35 : BitVec 1 := Scalar.cmpi .slt c2_i32_13 c0_i32_16
  let v36 : BitVec 32 := Scalar.extui v35
  let v37 : BitVec 32 := Scalar.subi v34 v36
  let v38 : BitVec 1 := Scalar.cmpi .ne v32 v37
  let v39 : BitVec 32 := Scalar.remsi v8 c2_i32_13
  let c0_i32_17 : BitVec 32 := 0#32
  let v40 : BitVec 1 := Scalar.cmpi .ne v39 c0_i32_17
  let v41 : BitVec 1 := Scalar.andi v38 v40
  let v27 : BitVec 32 := Scalar.divsi v8 c2_i32_13
  let c1_i32_18 : BitVec 32 := 1#32
  let v42 : BitVec 32 := Scalar.subi v27 c1_i32_18
  let v43 : BitVec 32 := Scalar.select v41 v42 v27
  let c2048_i32 : BitVec 32 := 2048#32
  let v44 : BitVec 32 := Scalar.muli v43 c2048_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_125 : BitVec 32 := 1#32
  let v152 : BitVec 32 := Scalar.addi v5 c1_i32_125
  let c4_i32_126 : BitVec 32 := 4#32
  let v153 : BitVec 32 := Scalar.remsi v152 c4_i32_126
  let c512_i32_127 : BitVec 32 := 512#32
  let v154 : BitVec 32 := Scalar.muli v153 c512_i32_127
  let v155 : BitVec 32 := Scalar.addi v44 v154
  let c0_i32_128 : BitVec 32 := 0#32
  ![v155.toNat, 0]
def k0_dev7 (d0 : Dev nD) : Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2 : BitVec 32 := 16#32
  let v9 : BitVec 32 := Scalar.muli v2 c16_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c2_i32_11 : BitVec 32 := 2#32
  let v24 : BitVec 1 := Scalar.cmpi .slt v8 c2_i32_11
  let c2_i32_12 : BitVec 32 := 2#32
  let c_m2_i32 : BitVec 32 := 4294967294#32
  let v25 : BitVec 32 := Scalar.select v24 c2_i32_12 c_m2_i32
  let v26 : BitVec 32 := Scalar.addi v12 v25
  v26.toNat
def k0_off4 (d0 : Dev nD) (c0_i32_151 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v28 : BitVec 1 := Scalar.cmpi .sgt v8 c0_i32
  let v29 : BitVec 32 := Scalar.extui v28
  let c0_i32_14 : BitVec 32 := 0#32
  let v30 : BitVec 1 := Scalar.cmpi .slt v8 c0_i32_14
  let v31 : BitVec 32 := Scalar.extui v30
  let v32 : BitVec 32 := Scalar.subi v29 v31
  let c2_i32_13 : BitVec 32 := 2#32
  let c0_i32_15 : BitVec 32 := 0#32
  let v33 : BitVec 1 := Scalar.cmpi .sgt c2_i32_13 c0_i32_15
  let v34 : BitVec 32 := Scalar.extui v33
  let c0_i32_16 : BitVec 32 := 0#32
  let v35 : BitVec 1 := Scalar.cmpi .slt c2_i32_13 c0_i32_16
  let v36 : BitVec 32 := Scalar.extui v35
  let v37 : BitVec 32 := Scalar.subi v34 v36
  let v38 : BitVec 1 := Scalar.cmpi .ne v32 v37
  let v39 : BitVec 32 := Scalar.remsi v8 c2_i32_13
  let c0_i32_17 : BitVec 32 := 0#32
  let v40 : BitVec 1 := Scalar.cmpi .ne v39 c0_i32_17
  let v41 : BitVec 1 := Scalar.andi v38 v40
  let v27 : BitVec 32 := Scalar.divsi v8 c2_i32_13
  let c1_i32_18 : BitVec 32 := 1#32
  let v42 : BitVec 32 := Scalar.subi v27 c1_i32_18
  let v43 : BitVec 32 := Scalar.select v41 v42 v27
  let c2048_i32 : BitVec 32 := 2048#32
  let v44 : BitVec 32 := Scalar.muli v43 c2048_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_150 : BitVec 32 := 1#32
  let v195 : BitVec 32 := Scalar.addi v5 c1_i32_150
  let v196 : BitVec 32 := Scalar.subi v195 c0_i32_151
  let c8_i32_152 : BitVec 32 := 8#32
  let v197 : BitVec 32 := Scalar.addi v196 c8_i32_152
  let c4_i32_153 : BitVec 32 := 4#32
  let v198 : BitVec 32 := Scalar.remsi v197 c4_i32_153
  let c512_i32_155 : BitVec 32 := 512#32
  let v201 : BitVec 32 := Scalar.muli v198 c512_i32_155
  let v202 : BitVec 32 := Scalar.addi v44 v201
  let c0_i32_158 : BitVec 32 := 0#32
  ![v202.toNat, 0]
def k0_dev8 (d0 : Dev nD) : Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2 : BitVec 32 := 16#32
  let v9 : BitVec 32 := Scalar.muli v2 c16_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c1_i32_8 : BitVec 32 := 1#32
  let v19 : BitVec 32 := Scalar.addi v5 c1_i32_8
  let c4_i32_9 : BitVec 32 := 4#32
  let v20 : BitVec 32 := Scalar.remsi v19 c4_i32_9
  let v21 : BitVec 32 := Scalar.subi v20 v5
  let c4_i32_10 : BitVec 32 := 4#32
  let v22 : BitVec 32 := Scalar.muli v21 c4_i32_10
  let v23 : BitVec 32 := Scalar.addi v12 v22
  v23.toNat
def k0_off5 (d0 : Dev nD) (c0_i32_169 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v28 : BitVec 1 := Scalar.cmpi .sgt v8 c0_i32
  let v29 : BitVec 32 := Scalar.extui v28
  let c0_i32_14 : BitVec 32 := 0#32
  let v30 : BitVec 1 := Scalar.cmpi .slt v8 c0_i32_14
  let v31 : BitVec 32 := Scalar.extui v30
  let v32 : BitVec 32 := Scalar.subi v29 v31
  let c2_i32_13 : BitVec 32 := 2#32
  let c0_i32_15 : BitVec 32 := 0#32
  let v33 : BitVec 1 := Scalar.cmpi .sgt c2_i32_13 c0_i32_15
  let v34 : BitVec 32 := Scalar.extui v33
  let c0_i32_16 : BitVec 32 := 0#32
  let v35 : BitVec 1 := Scalar.cmpi .slt c2_i32_13 c0_i32_16
  let v36 : BitVec 32 := Scalar.extui v35
  let v37 : BitVec 32 := Scalar.subi v34 v36
  let v38 : BitVec 1 := Scalar.cmpi .ne v32 v37
  let v39 : BitVec 32 := Scalar.remsi v8 c2_i32_13
  let c0_i32_17 : BitVec 32 := 0#32
  let v40 : BitVec 1 := Scalar.cmpi .ne v39 c0_i32_17
  let v41 : BitVec 1 := Scalar.andi v38 v40
  let v27 : BitVec 32 := Scalar.divsi v8 c2_i32_13
  let c1_i32_18 : BitVec 32 := 1#32
  let v42 : BitVec 32 := Scalar.subi v27 c1_i32_18
  let v43 : BitVec 32 := Scalar.select v41 v42 v27
  let c2048_i32 : BitVec 32 := 2048#32
  let v44 : BitVec 32 := Scalar.muli v43 c2048_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v217 : BitVec 32 := Scalar.subi v5 c0_i32_169
  let c8_i32_170 : BitVec 32 := 8#32
  let v218 : BitVec 32 := Scalar.addi v217 c8_i32_170
  let c4_i32_171 : BitVec 32 := 4#32
  let v219 : BitVec 32 := Scalar.remsi v218 c4_i32_171
  let c512_i32_173 : BitVec 32 := 512#32
  let v222 : BitVec 32 := Scalar.muli v219 c512_i32_173
  let v223 : BitVec 32 := Scalar.addi v44 v222
  let c0_i32_176 : BitVec 32 := 0#32
  ![v223.toNat, 0]
def k0_dev9 (d0 : Dev nD) : Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2 : BitVec 32 := 16#32
  let v9 : BitVec 32 := Scalar.muli v2 c16_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c2_i32_11 : BitVec 32 := 2#32
  let v24 : BitVec 1 := Scalar.cmpi .slt v8 c2_i32_11
  let c2_i32_12 : BitVec 32 := 2#32
  let c_m2_i32 : BitVec 32 := 4294967294#32
  let v25 : BitVec 32 := Scalar.select v24 c2_i32_12 c_m2_i32
  let v26 : BitVec 32 := Scalar.addi v12 v25
  v26.toNat
def k0_dev10 (d0 : Dev nD) : Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2 : BitVec 32 := 16#32
  let v9 : BitVec 32 := Scalar.muli v2 c16_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c1_i32_8 : BitVec 32 := 1#32
  let v19 : BitVec 32 := Scalar.addi v5 c1_i32_8
  let c4_i32_9 : BitVec 32 := 4#32
  let v20 : BitVec 32 := Scalar.remsi v19 c4_i32_9
  let v21 : BitVec 32 := Scalar.subi v20 v5
  let c4_i32_10 : BitVec 32 := 4#32
  let v22 : BitVec 32 := Scalar.muli v21 c4_i32_10
  let v23 : BitVec 32 := Scalar.addi v12 v22
  v23.toNat
def k0_dev11 (d0 : Dev nD) : Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2 : BitVec 32 := 16#32
  let v9 : BitVec 32 := Scalar.muli v2 c16_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c2_i32_11 : BitVec 32 := 2#32
  let v24 : BitVec 1 := Scalar.cmpi .slt v8 c2_i32_11
  let c2_i32_12 : BitVec 32 := 2#32
  let c_m2_i32 : BitVec 32 := 4294967294#32
  let v25 : BitVec 32 := Scalar.select v24 c2_i32_12 c_m2_i32
  let v26 : BitVec 32 := Scalar.addi v12 v25
  v26.toNat
def k0_dev12 (d0 : Dev nD) : Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2 : BitVec 32 := 16#32
  let v9 : BitVec 32 := Scalar.muli v2 c16_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c1_i32_8 : BitVec 32 := 1#32
  let v19 : BitVec 32 := Scalar.addi v5 c1_i32_8
  let c4_i32_9 : BitVec 32 := 4#32
  let v20 : BitVec 32 := Scalar.remsi v19 c4_i32_9
  let v21 : BitVec 32 := Scalar.subi v20 v5
  let c4_i32_10 : BitVec 32 := 4#32
  let v22 : BitVec 32 := Scalar.muli v21 c4_i32_10
  let v23 : BitVec 32 := Scalar.addi v12 v22
  v23.toNat
def k0_dev13 (d0 : Dev nD) : Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2 : BitVec 32 := 16#32
  let v9 : BitVec 32 := Scalar.muli v2 c16_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c2_i32_11 : BitVec 32 := 2#32
  let v24 : BitVec 1 := Scalar.cmpi .slt v8 c2_i32_11
  let c2_i32_12 : BitVec 32 := 2#32
  let c_m2_i32 : BitVec 32 := 4294967294#32
  let v25 : BitVec 32 := Scalar.select v24 c2_i32_12 c_m2_i32
  let v26 : BitVec 32 := Scalar.addi v12 v25
  v26.toNat
def k0_off6 (d0 : Dev nD) : Fin 2 → Nat :=
  let c1_i32_19 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v28 : BitVec 1 := Scalar.cmpi .sgt v8 c0_i32
  let v29 : BitVec 32 := Scalar.extui v28
  let c0_i32_14 : BitVec 32 := 0#32
  let v30 : BitVec 1 := Scalar.cmpi .slt v8 c0_i32_14
  let v31 : BitVec 32 := Scalar.extui v30
  let v32 : BitVec 32 := Scalar.subi v29 v31
  let c2_i32_13 : BitVec 32 := 2#32
  let c0_i32_15 : BitVec 32 := 0#32
  let v33 : BitVec 1 := Scalar.cmpi .sgt c2_i32_13 c0_i32_15
  let v34 : BitVec 32 := Scalar.extui v33
  let c0_i32_16 : BitVec 32 := 0#32
  let v35 : BitVec 1 := Scalar.cmpi .slt c2_i32_13 c0_i32_16
  let v36 : BitVec 32 := Scalar.extui v35
  let v37 : BitVec 32 := Scalar.subi v34 v36
  let v38 : BitVec 1 := Scalar.cmpi .ne v32 v37
  let v39 : BitVec 32 := Scalar.remsi v8 c2_i32_13
  let c0_i32_17 : BitVec 32 := 0#32
  let v40 : BitVec 1 := Scalar.cmpi .ne v39 c0_i32_17
  let v41 : BitVec 1 := Scalar.andi v38 v40
  let v27 : BitVec 32 := Scalar.divsi v8 c2_i32_13
  let c1_i32_18 : BitVec 32 := 1#32
  let v42 : BitVec 32 := Scalar.subi v27 c1_i32_18
  let v43 : BitVec 32 := Scalar.select v41 v42 v27
  let v45 : BitVec 32 := Scalar.subi c1_i32_19 v43
  let c2048_i32_20 : BitVec 32 := 2048#32
  let v46 : BitVec 32 := Scalar.muli v45 c2048_i32_20
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_234 : BitVec 32 := 1#32
  let v300 : BitVec 32 := Scalar.addi v5 c1_i32_234
  let c4_i32_235 : BitVec 32 := 4#32
  let v301 : BitVec 32 := Scalar.remsi v300 c4_i32_235
  let c512_i32_244 : BitVec 32 := 512#32
  let v312 : BitVec 32 := Scalar.muli v301 c512_i32_244
  let v313 : BitVec 32 := Scalar.addi v46 v312
  let c0_i32_247 : BitVec 32 := 0#32
  ![v313.toNat, 0]
def k0_off7 (d0 : Dev nD) (c0_i32_249 : BitVec 32) : Fin 2 → Nat :=
  let c1_i32_19 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v28 : BitVec 1 := Scalar.cmpi .sgt v8 c0_i32
  let v29 : BitVec 32 := Scalar.extui v28
  let c0_i32_14 : BitVec 32 := 0#32
  let v30 : BitVec 1 := Scalar.cmpi .slt v8 c0_i32_14
  let v31 : BitVec 32 := Scalar.extui v30
  let v32 : BitVec 32 := Scalar.subi v29 v31
  let c2_i32_13 : BitVec 32 := 2#32
  let c0_i32_15 : BitVec 32 := 0#32
  let v33 : BitVec 1 := Scalar.cmpi .sgt c2_i32_13 c0_i32_15
  let v34 : BitVec 32 := Scalar.extui v33
  let c0_i32_16 : BitVec 32 := 0#32
  let v35 : BitVec 1 := Scalar.cmpi .slt c2_i32_13 c0_i32_16
  let v36 : BitVec 32 := Scalar.extui v35
  let v37 : BitVec 32 := Scalar.subi v34 v36
  let v38 : BitVec 1 := Scalar.cmpi .ne v32 v37
  let v39 : BitVec 32 := Scalar.remsi v8 c2_i32_13
  let c0_i32_17 : BitVec 32 := 0#32
  let v40 : BitVec 1 := Scalar.cmpi .ne v39 c0_i32_17
  let v41 : BitVec 1 := Scalar.andi v38 v40
  let v27 : BitVec 32 := Scalar.divsi v8 c2_i32_13
  let c1_i32_18 : BitVec 32 := 1#32
  let v42 : BitVec 32 := Scalar.subi v27 c1_i32_18
  let v43 : BitVec 32 := Scalar.select v41 v42 v27
  let v45 : BitVec 32 := Scalar.subi c1_i32_19 v43
  let c2048_i32_20 : BitVec 32 := 2048#32
  let v46 : BitVec 32 := Scalar.muli v45 c2048_i32_20
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v318 : BitVec 32 := Scalar.subi v5 c0_i32_249
  let c8_i32_250 : BitVec 32 := 8#32
  let v319 : BitVec 32 := Scalar.addi v318 c8_i32_250
  let c4_i32_251 : BitVec 32 := 4#32
  let v320 : BitVec 32 := Scalar.remsi v319 c4_i32_251
  let c512_i32_260 : BitVec 32 := 512#32
  let v331 : BitVec 32 := Scalar.muli v320 c512_i32_260
  let v332 : BitVec 32 := Scalar.addi v46 v331
  let c0_i32_263 : BitVec 32 := 0#32
  ![v332.toNat, 0]
abbrev stage0_0 : Fin 1 → Memref sig .tc .vmem S4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S1x4096, .f32⟩
  | .hbm, ⟨20, _⟩ => ⟨S4096x4096, .f32⟩
  | .hbm, ⟨21, _⟩ => ⟨S4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Topo.lean ====
/- The mesh as the kernel uses it: a device's neighbours on the ring of the axis `y`, its partner on the axis `z`, the
   block of 512 rows that each transfer moves, and the closed forms of the printed device numbers and offsets. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.Fused

open Cert.KernelIdeal Cert.KernelIdeal.Gen
open Idealize.ShloMosaic
open Idealize.ShloMosaic.TcCoe
open Idealize.SL Idealize.SL.RA Idealize.SL.BI Idealize.SL.Sem

/-! ## Devices -/

/-- The device `k` places up the ring of the axis `y`, at shift `dz` on the axis `z`. -/
abbrev shift (k dz : ℕ) (c : Dev nD) : Dev nD :=
  ⟨16 * (c.val / 16 % 2) + 4 * ((c.val / 4 % 4 + k) % 4) + (c.val % 4 + dz) % 4, by
    have h1 := Nat.mod_lt (c.val / 16) (show 2 > 0 by decide)
    have h2 := Nat.mod_lt (c.val / 4 % 4 + k) (show 4 > 0 by decide)
    have h3 := Nat.mod_lt (c.val % 4 + dz) (show 4 > 0 by decide)
    show _ < 32
    omega⟩

/-- The next device on the ring of `y`. -/
def rt (c : Dev nD) : Dev nD := shift 1 0 c
/-- The device before it on that ring. -/
def lf (c : Dev nD) : Dev nD := shift 3 0 c
/-- The device two places away on the axis `z`, which has the other half of the rows. -/
def pt (c : Dev nD) : Dev nD := shift 0 2 c

/-- The next device's previous one is the device, -/
theorem lf_rt (c : Dev nD) : lf (rt c) = c := by revert c; decide
/-- and so is the previous one's next, -/
theorem rt_lf (c : Dev nD) : rt (lf c) = c := by revert c; decide
/-- and the partner's partner. -/
theorem pt_pt (c : Dev nD) : pt (pt c) = c := by revert c; decide

/-- The ring as a permutation of the devices. -/
def ringE : Dev nD ≃ Dev nD := ⟨rt, lf, lf_rt, rt_lf⟩
/-- The exchange of the halves as a permutation of the devices. -/
def pairE : Dev nD ≃ Dev nD := ⟨pt, pt, pt_pt, pt_pt⟩

/-- The printed number of the barrier's first signal: the previous device; -/
theorem dev1_eq (c : Dev nD) : (⟨k0_dev1 c, k0_dev1_lt c⟩ : Dev nD) = lf c := by revert c; decide +kernel
/-- of its second: the next device; -/
theorem dev2_eq (c : Dev nD) : (⟨k0_dev2 c, k0_dev2_lt c⟩ : Dev nD) = rt c := by revert c; decide +kernel
/-- of its third: the partner. -/
theorem dev3_eq (c : Dev nD) : (⟨k0_dev3 c, k0_dev3_lt c⟩ : Dev nD) = pt c := by revert c; decide +kernel
/-- Of the reduction's first copy: the next device; -/
theorem dev4_eq (c : Dev nD) : (⟨k0_dev4 c, k0_dev4_lt c⟩ : Dev nD) = rt c := by revert c; decide +kernel
/-- of its second; -/
theorem dev5_eq (c : Dev nD) : (⟨k0_dev5 c, k0_dev5_lt c⟩ : Dev nD) = rt c := by revert c; decide +kernel
/-- of its third. -/
theorem dev6_eq (c : Dev nD) : (⟨k0_dev6 c, k0_dev6_lt c⟩ : Dev nD) = rt c := by revert c; decide +kernel
/-- Of the finished block's exchange: the partner. -/
theorem dev7_eq (c : Dev nD) : (⟨k0_dev7 c, k0_dev7_lt c⟩ : Dev nD) = pt c := by revert c; decide +kernel
/-- Of the gathering's first copy: the next device; -/
theorem dev8_eq (c : Dev nD) : (⟨k0_dev8 c, k0_dev8_lt c⟩ : Dev nD) = rt c := by revert c; decide +kernel
/-- of the exchange that follows: the partner. -/
theorem dev9_eq (c : Dev nD) : (⟨k0_dev9 c, k0_dev9_lt c⟩ : Dev nD) = pt c := by revert c; decide +kernel
/-- Of the gathering's second copy: the next device; -/
theorem dev10_eq (c : Dev nD) : (⟨k0_dev10 c, k0_dev10_lt c⟩ : Dev nD) = rt c := by revert c; decide +kernel
/-- of the exchange that follows: the partner. -/
theorem dev11_eq (c : Dev nD) : (⟨k0_dev11 c, k0_dev11_lt c⟩ : Dev nD) = pt c := by revert c; decide +kernel
/-- Of the gathering's third copy: the next device; -/
theorem dev12_eq (c : Dev nD) : (⟨k0_dev12 c, k0_dev12_lt c⟩ : Dev nD) = rt c := by revert c; decide +kernel
/-- of the exchange that follows: the partner. -/
theorem dev13_eq (c : Dev nD) : (⟨k0_dev13 c, k0_dev13_lt c⟩ : Dev nD) = pt c := by revert c; decide +kernel

/-! ## Blocks of rows -/

/-- The block of 512 rows that is the `(y + k) mod 4`-th of the half of the rows that device `c` works on. -/
def blk (c : Dev nD) (k : Fin 4) : Fin 8 :=
  ⟨4 * (c.val % 4 / 2) + (c.val / 4 % 4 + k.val) % 4, by
    have := Nat.mod_lt (c.val / 4 % 4 + k.val) (show 4 > 0 by decide)
    have := Nat.mod_lt c.val (show 4 > 0 by decide)
    omega⟩

/-- The device that normalises block `q` for the devices that exchange with `c`. -/
def ow (c : Dev nD) (q : Fin 8) : Dev nD :=
  ⟨16 * (c.val / 16 % 2) + 4 * ((q.val + 3) % 4) + (c.val % 2 + 2 * (q.val / 4)), by
    have h1 := Nat.mod_lt (c.val / 16) (show 2 > 0 by decide)
    have h2 := Nat.mod_lt (q.val + 3) (show 4 > 0 by decide)
    have h3 := Nat.mod_lt c.val (show 2 > 0 by decide)
    have h4 : q.val / 4 ≤ 1 := by omega
    show _ < 32
    omega⟩

/-- A block has the same owner for a device and the next one, -/
theorem ow_rt (c : Dev nD) (q : Fin 8) : ow (rt c) q = ow c q := by revert c q; decide +kernel
/-- and for a device and its partner. -/
theorem ow_pt (c : Dev nD) (q : Fin 8) : ow (pt c) q = ow c q := by revert c q; decide +kernel
/-- A device owns the block that it normalises. -/
theorem ow_own (c : Dev nD) : ow c (blk c 1) = c := by revert c; decide +kernel

/-- The index of the block that round `s` of the gather sends, counted from `y`: `1`, `0`, `3`. -/
def agk (s : Fin 3) : Fin 4 := ⟨(5 - s.val) % 4, Nat.mod_lt _ (by decide)⟩
/-- The index of the block that the `j`-th exchange sends, counted from `y`: `1`, `0`, `3`, `2`. -/
def zxk (j : Fin 4) : Fin 4 := ⟨(5 - j.val) % 4, Nat.mod_lt _ (by decide)⟩

/-- A block that the ring's next device sends is the following one here. -/
theorem blk_lf (c : Dev nD) (s : Fin 3) : blk (lf c) (agk s) = blk c (zxk s.succ) := by revert c s; decide +kernel

/-- The printed offset of the first block sent: block 0 in the device's order; -/
theorem off1_eq (c : Dev nD) : k0_off1 c = ![0, 512 * (blk c 0).val, 0] := by revert c; decide +kernel
/-- of the blocks that it adds; -/
theorem off2_eq (c : Dev nD) (r : Fin 3) : k0_off2 c (BitVec.ofNat 32 r.val) = ![0, 512 * (blk c ⟨3 - r.val, by omega⟩).val, 0] := by
  revert c r; decide +kernel
/-- of the block that it normalises; -/
theorem off3_eq (c : Dev nD) : k0_off3 c = ![512 * (blk c 1).val, 0] := by revert c; decide +kernel
/-- of the blocks that the gathering sends; -/
theorem off4_eq (c : Dev nD) (r : Fin 3) : k0_off4 c (BitVec.ofNat 32 r.val) = ![512 * (blk c (agk r)).val, 0] := by revert c r; decide +kernel
/-- of the blocks that the exchanges send; -/
theorem off5_eq (c : Dev nD) (r : Fin 3) : k0_off5 c (BitVec.ofNat 32 r.val) = ![512 * (blk c (zxk r.succ)).val, 0] := by revert c r; decide +kernel
/-- of the first block that the partner sends; -/
theorem off6_eq (c : Dev nD) : k0_off6 c = ![512 * (blk (pt c) 1).val, 0] := by revert c; decide +kernel
/-- and of the others. -/
theorem off7_eq (c : Dev nD) (r : Fin 3) : k0_off7 c (BitVec.ofNat 32 r.val) = ![512 * (blk (pt c) (zxk r.succ)).val, 0] := by revert c r; decide +kernel

end Cert.Fused

end
-- ==== Proof.Sched.lean ====
/- The kernel's semaphore cells, the contents each transfer carries, and the schedule: for every cell, its rounds, who
   pays them, how many units, and what a payment hands to the cell's owner. -/
module

public import proofs.«01_k».proof.Proof.Topo

@[expose] public section

set_option maxRecDepth 16384

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resource algebras -/

/-- The kernel's copy of the rounds library: at most three payments a round. -/
abbrev UB : Type := URounds (GSem nD τ sig) (Fin 3)
/-- The pipeline's copy and the kernel's. -/
abbrev UU : Type := UR sig nD τ × UB

local notation "𝕄" => MT nD τ sig Unit (Elt F) ℕ UU ℕ

/-- Where the pipeline's copy lies in the machine's resources, -/
abbrev EP : Emb (UR sig nD τ) (MT nD τ sig Unit (Elt F) ℕ UU ℕ) := embL
/-- and where the kernel's lies. -/
abbrev ER : Emb UB (MT nD τ sig Unit (Elt F) ℕ UU ℕ) := embR

variable (m : (ℓ : Loc nD τ sig) → Buf (Elt F) ℓ) (ρ : Dev nD → PrngReg)

/-- The memory at launch: arbitrary contents, every counter at zero, arbitrary generator registers. -/
def s₀ : MemSt nD τ sig (Elt F) := ⟨m, fun _ => 0, ρ⟩

/-! ## Memrefs -/

/-- A block of rows lies in the array, -/
theorem row_inb (q : Fin 8) : ∀ a, (![512 * q.val, 0] : Fin 2 → ℕ) a + S512x4096.size a ≤ S4096x4096.size a := by revert q; decide
/-- a block of the partial sums lies in its array, -/
theorem prow_inb (q : Fin 8) : ∀ a, (![0, 512 * q.val, 0] : Fin 3 → ℕ) a + S1x512x4096.size a ≤ S1x4096x4096.size a := by revert q; decide
/-- and a slot lies in the landing buffer. -/
theorem slot_inb (s : Fin 3) : ∀ a, (![s.val, 0, 0] : Fin 3 → ℕ) a + S1x512x4096.size a ≤ S3x512x4096.size a := by revert s; decide

/-- The rectangle of block `q` of a 4096×4096 array. -/
abbrev rowR (q : Fin 8) : Rect S4096x4096 := Rect.unit (s := S4096x4096) ![512 * q.val, 0] S512x4096.size (row_inb q)
/-- The rectangle of slot `s` of the landing buffer. -/
abbrev slotR (s : Fin 3) : Rect S3x512x4096 := Rect.unit (s := S3x512x4096) ![s.val, 0, 0] S1x512x4096.size (slot_inb s)
/-- Block `q` of the result. -/
def oM (q : Fin 8) : Memref sig .tc .hbm S512x4096 .f32 := (Memref.whole main_v1).slice (rowR q) (fun _ => rfl)
/-- Block `q` of the residual. -/
def rM (q : Fin 8) : Memref sig .tc .hbm S512x4096 .f32 := (Memref.whole main_arg1).slice (rowR q) (fun _ => rfl)
/-- Block `q` of the device's partial sums. -/
def pM (q : Fin 8) : Memref sig .tc .hbm S512x4096 .f32 :=
  ((Memref.whole main_arg0).slice (Rect.unit (s := S1x4096x4096) ![0, 512 * q.val, 0] S1x512x4096.size (prow_inb q)) (fun _ => rfl)).squeeze
    S512x4096 squeezes_S1x512x4096_S512x4096
/-- Slot `s` of the landing buffer of the ring's reduction. -/
def slM (s : Fin 3) : Memref sig .tc .vmem S512x4096 .f32 :=
  ((Memref.whole cc0_scratch0).slice (slotR s) (fun _ => rfl)).squeeze S512x4096 squeezes_S1x512x4096_S512x4096
/-- The running sum's buffer. -/
abbrev accM : Memref sig .tc .vmem S512x4096 .f32 := Memref.whole cc0_scratch1
/-- The buffer that blocks of the device's own arrays are copied to. -/
abbrev tmpM : Memref sig .tc .vmem S512x4096 .f32 := Memref.whole cc0_scratch2
/-- The scale's staging buffer. -/
abbrev gamM : Memref sig .tc .vmem S4096 .f32 := Memref.whole cc0_stg0_0

/-- A slice of the result at a block's rows is that block; -/
theorem oM_of {off : Fin 2 → ℕ} {h : ∀ a, off a + S512x4096.size a ≤ S4096x4096.size a} (q : Fin 8) (e : off = ![512 * q.val, 0]) :
    (Memref.whole main_v1).slice (Rect.unit (s := S4096x4096) off S512x4096.size h) (fun _ => rfl) = oM q := by subst e; rfl
/-- the same for the residual, -/
theorem rM_of {off : Fin 2 → ℕ} {h : ∀ a, off a + S512x4096.size a ≤ S4096x4096.size a} (q : Fin 8) (e : off = ![512 * q.val, 0]) :
    (Memref.whole main_arg1).slice (Rect.unit (s := S4096x4096) off S512x4096.size h) (fun _ => rfl) = rM q := by subst e; rfl
/-- and for the partial sums. -/
theorem pM_of {off : Fin 3 → ℕ} {h : ∀ a, off a + S1x512x4096.size a ≤ S1x4096x4096.size a} (q : Fin 8) (e : off = ![0, 512 * q.val, 0]) :
    ((Memref.whole main_arg0).slice (Rect.unit (s := S1x4096x4096) off S1x512x4096.size h) (fun _ => rfl)).squeeze
      S512x4096 squeezes_S1x512x4096_S512x4096 = pM q := by subst e; rfl

/-! ## Cells -/

/-- The kinds of semaphore cell of a device: the barrier; the send and receive cells of the reduction's rounds, of the
    gather's rounds and of the exchanges; the cell of the copies within the device. -/
inductive Kd where
  | bar | rsS (s : Fin 3) | rsR (s : Fin 3) | agS (s : Fin 3) | agR (s : Fin 3) | zxS (j : Fin 4) | zxR (j : Fin 4) | cp
deriving DecidableEq

/-- Every kind. -/
def allK : List Kd :=
  [.bar, .rsS 0, .rsS 1, .rsS 2, .rsR 0, .rsR 1, .rsR 2, .agS 0, .agS 1, .agS 2, .agR 0, .agR 1, .agR 2,
    .zxS 0, .zxS 1, .zxS 2, .zxS 3, .zxR 0, .zxR 1, .zxR 2, .zxR 3, .cp]
/-- No kind is listed twice, -/
theorem allK_nodup : allK.Nodup := by decide
/-- and each is listed. -/
theorem mem_allK (k : Kd) : k ∈ allK := by
  rcases k with _ | s | s | s | s | j | j | _
  · decide
  · revert s; decide
  · revert s; decide
  · revert s; decide
  · revert s; decide
  · revert j; decide
  · revert j; decide
  · decide
/-- So there are finitely many kinds. -/
instance : Fintype Kd := ⟨⟨allK, allK_nodup⟩, mem_allK⟩

/-- An index below three is one of an array of three semaphores. -/
theorem s3_inb (s : Fin 3) : ∀ a, (![s.val] : Fin 1 → ℕ) a + S1.size a ≤ S3.size a := by revert s; decide
/-- An index below four is one of an array of four semaphores. -/
theorem s4_inb (j : Fin 4) : ∀ a, (![j.val] : Fin 1 → ℕ) a + S1.size a ≤ S4.size a := by revert j; decide
/-- The `s`-th semaphore of an array of three. -/
abbrev sem3 (a : DmaSems sig S3) (s : Fin 3) : DmaSem sig :=
  ((a.slice (Rect.unit (s := S3) ![s.val] S1.size (s3_inb s))).squeeze S_ squeezes_S1_S_).sem
/-- The `j`-th semaphore of an array of four. -/
abbrev sem4 (a : DmaSems sig S4) (j : Fin 4) : DmaSem sig :=
  ((a.slice (Rect.unit (s := S4) ![j.val] S1.size (s4_inb j))).squeeze S_ squeezes_S1_S_).sem
/-- The runtime's barrier semaphore. -/
abbrev barS : Sem sig := (SemArray.scalar (sig.barrier 0 rfl) : Sems sig S_).sem

/-- The DMA semaphore of a kind (the barrier's entry is not used). -/
abbrev ksem : Kd → DmaSem sig
  | .bar => (cc0_scratch9 : DmaSems sig S_).sem
  | .rsS s => sem3 cc0_scratch3 s | .rsR s => sem3 cc0_scratch4 s
  | .agS s => sem3 cc0_scratch5 s | .agR s => sem3 cc0_scratch6 s
  | .zxS j => sem4 cc0_scratch7 j | .zxR j => sem4 cc0_scratch8 j
  | .cp => (cc0_scratch9 : DmaSems sig S_).sem
/-- The semaphore of a kind. -/
abbrev csem : Kd → SemLoc sig
  | .bar => .reg barS
  | k => .dma (ksem k)
/-- Device `c`'s cell of kind `k`. -/
abbrev cell (c : Dev nD) (k : Kd) : GSem nD τ sig := ((c : Thread nD τ), csem k)

/-- The kind of a semaphore, if it is one of the kernel's. -/
def kd? (s : SemLoc sig) : Option Kd := allK.find? fun k => decide (csem k = s)
/-- Every listed kind is the kind of its semaphore, -/
theorem kd_all : ∀ k ∈ allK, kd? (csem k) = some k := by decide
/-- so every kind is, -/
theorem kd_csem (k : Kd) : kd? (csem k) = some k := kd_all k (mem_allK k)
/-- and different kinds have different semaphores. -/
theorem csem_inj : Function.Injective csem := fun a b h => by
  have := kd_csem a; rw [h, kd_csem b] at this; exact (Option.some.inj this).symm
/-- Two cells are the same only for the same device and kind. -/
theorem cell_inj {c c' : Dev nD} {k k' : Kd} (h : cell c k = cell c' k') : c = c' ∧ k = k' :=
  ⟨congrArg (fun g : GSem nD τ sig => g.1.1) h, csem_inj (congrArg Prod.snd h)⟩

/-- The units of a transfer of one block. -/
@[irreducible] def N0 : ℕ := RefSig.tileCredit S512x4096 .f32
/-- Every block of 512 rows is one transfer's worth. -/
theorem amount_any {sp : Space} (v : Memref sig .tc sp S512x4096 .f32) (d : DmaSem sig) : v.view.amount (.dma d) = N0 := by unfold N0; rfl
/-- A transfer has some units. -/
theorem N0_pos : 0 < N0 := by
  rw [← amount_any tmpM 0]; exact View.dmaCredit_pos _ (Shape.numel_pos fun a => by fin_cases a <;> decide)
/-- The units of one payment to a cell of kind `k`. -/
def amt : Kd → ℕ
  | .bar => 1
  | _ => N0
/-- Every payment has some units. -/
theorem amt_pos (k : Kd) : 0 < amt k := by cases k <;> unfold amt <;> dsimp only <;> first | exact N0_pos | exact Nat.one_pos

/-! ## Contents -/

/-- The block of partial sums of device `c` that is `k` places up from `y`. -/
def pc (c : Dev nD) (k : Fin 4) : Vec F S512x4096 .f32 := (pM (blk c k)).view.read (Elt F) ((s₀ m ρ).mem ((c : Thread nD τ).loc main_arg0))
/-- The residual's block that device `c` normalises. -/
def rc (c : Dev nD) : Vec F S512x4096 .f32 := (rM (blk c 1)).view.read (Elt F) ((s₀ m ρ).mem ((c : Thread nD τ).loc main_arg1))
/-- The scale of device `c`, as staged. -/
def gm (c : Dev nD) : Vec F S4096 .f32 := (win0_0.blk (0 : Fin 1)).view.read (Elt F) ((s₀ m ρ).mem ((c : Thread nD τ).loc main_arg2))
/-- The running sum of device `c` after `n` rounds of the reduction. -/
def acc : ℕ → Dev nD → Vec F S512x4096 .f32
  | 0, c => pc m ρ c 0
  | n + 1, c => addf (acc n (lf c)) (pc m ρ c ⟨3 - n, by omega⟩)
/-- The block of the result that device `c` computes. -/
def nb (c : Dev nD) : Vec F S512x4096 .f32 := k0_pay5 (acc m ρ 3 c) (rc m ρ c) (gm m ρ c)

/-! ## The schedule -/

/-- A block of the result on device `c`, at any contents. -/
def oAny (c : Dev nD) (q : Fin 8) : sProp 𝕄 := iprop(∃ X, owns (c : Thread nD τ) (oM q) fullShare X)
/-- A slot of the landing buffer on device `c`, at any contents. -/
def slAny (c : Dev nD) (s : Fin 3) : sProp 𝕄 := iprop(∃ X, owns (c : Thread nD τ) (slM s) fullShare X)
/-- The running sum's buffer on device `c`, at any contents. -/
def accAny (c : Dev nD) : sProp 𝕄 := iprop(∃ X, owns (c : Thread nD τ) accM fullShare X)
/-- A block of the result on device `c` at share `q`, holding what its owner computed. -/
def oFin (c : Dev nD) (b : Fin 8) (q : PosShare TreeShare) : sProp 𝕄 := owns (c : Thread nD τ) (oM b) q (nb m ρ (ow c b))

/-- What a payment to device `c`'s cell of kind `k` hands to `c`. At the barrier, the next device on the ring hands over
    its landing slots and the blocks of its result that `c` writes, the partner the blocks of its result that `c`
    writes. -/
def pay (c : Dev nD) : Kd → ℕ → Fin 3 → sProp 𝕄
  | .bar, _, d => if d = 1 then iprop((bigSep Finset.univ fun s : Fin 3 => slAny (rt c) s) ∗ bigSep Finset.univ fun s : Fin 3 => oAny (rt c) (blk c (agk s)))
      else if d = 2 then bigSep Finset.univ fun j : Fin 4 => oAny (pt c) (blk c (zxk j))
      else iprop(emp)
  | .rsS s, _, _ => if s = 0 then iprop(emp) else accAny c
  | .rsR s, _, _ => owns (c : Thread nD τ) (slM s) fullShare (acc m ρ s.val (lf c))
  | .agS _, _, _ => iprop(emp)
  | .agR s, _, _ => oFin m ρ c (blk c (zxk s.succ)) fullShare
  | .zxS j, _, _ => oFin m ρ c (blk c (zxk j)) fullShare.left
  | .zxR j, _, _ => oFin m ρ c (blk (pt c) (zxk j)) fullShare
  | .cp, r, _ => if h : r < 3 then owns (c : Thread nD τ) tmpM fullShare (pc m ρ c ⟨3 - r, by omega⟩)
      else if r = 3 then owns (c : Thread nD τ) tmpM fullShare (rc m ρ c)
      else iprop(oFin m ρ c (blk c 1) fullShare ∗ accAny c)

/-- Who pays round `r` of a cell of kind `k`: three at the barrier, one elsewhere; the copies' cell has five rounds, every
    other cell one. -/
def dut : Kd → ℕ → Finset (Fin 3)
  | .bar, r => if r = 0 then Finset.univ else ∅
  | .cp, r => if r < 5 then {0} else ∅
  | _, r => if r = 0 then {0} else ∅

/-- What a payment hands over can be kept in an invariant. -/
instance pay_storable (c : Dev nD) (k : Kd) (r : ℕ) (d : Fin 3) : BI.Storable (upEmb : UEmb _ 𝕄) (pay m ρ c k r d) := by
  unfold pay oFin slAny oAny accAny
  cases k <;> dsimp only
  case zxR j => infer_instance
  all_goals (repeat' split) <;> infer_instance

/-- The schedule. -/
def sched : Rounds.Schedule (GSem nD τ sig) (Fin 3) 𝕄 where
  duties g r := if g.1.2 = .tc then (match kd? g.2 with | some k => dut k r | none => ∅) else ∅
  unitless _ := False
  amount g _ _ := match kd? g.2 with | some k => amt k | none => 1
  payload g r d := match kd? g.2 with | some k => pay m ρ g.1.1 k r d | none => iprop(emp)
  amount_pos g r d _ := by split; exact amt_pos _; exact Nat.one_pos

/-- So can every payload of the schedule. -/
instance sched_storable (g : GSem nD τ sig) (r : ℕ) (d : Fin 3) :
    BI.Storable (upEmb : UEmb _ 𝕄) ((sched (F := F) m ρ).payload g r d) := by
  show BI.Storable upEmb (match kd? g.2 with | some k => pay m ρ g.1.1 k r d | none => iprop(emp))
  split <;> infer_instance

/-- The schedule at a cell: who pays, -/
theorem duties_cell (c : Dev nD) (k : Kd) (r : ℕ) : (sched (F := F) m ρ).duties (cell c k) r = dut k r := by
  show (if (cell c k).1.2 = .tc then (match kd? (csem k) with | some k => dut k r | none => ∅) else ∅) = _
  rw [if_pos rfl, kd_csem]
/-- how much, -/
theorem amount_cell (c : Dev nD) (k : Kd) (r : ℕ) (d : Fin 3) : (sched (F := F) m ρ).amount (cell c k) r d = amt k := by
  show (match kd? (csem k) with | some k => amt k | none => 1) = _
  rw [kd_csem]
/-- what is handed over, -/
theorem payload_cell (c : Dev nD) (k : Kd) (r : ℕ) (d : Fin 3) : (sched (F := F) m ρ).payload (cell c k) r d = pay m ρ c k r d := by
  show (match kd? (csem k) with | some k => pay m ρ c k r d | none => iprop(emp)) = _
  rw [kd_csem]
/-- and the units of a round. -/
theorem expect_cell (c : Dev nD) (k : Kd) (r : ℕ) : (sched (F := F) m ρ).expect (cell c k) r = (dut k r).card * amt k := by
  unfold Schedule.expect Schedule.amountOf
  rw [duties_cell, Finset.sum_congr rfl fun d _ => amount_cell m ρ c k r d, Finset.sum_const, smul_eq_mul]

/-- The number of rounds of a cell of kind `k`. -/
def nR : Kd → ℕ
  | .cp => 5
  | _ => 1
/-- After its last round nobody pays a cell, -/
theorem dut_later (k : Kd) (r : ℕ) (h : nR k ≤ r) : dut k r = ∅ := by
  cases k <;> (unfold nR at h; dsimp only at h; unfold dut; dsimp only; exact if_neg (by omega))
/-- and the schedule lists no payment there. -/
theorem duties_later (c : Dev nD) (k : Kd) : ∀ r, nR k ≤ r → (sched (F := F) m ρ).duties (cell c k) r = ∅ :=
  fun r hr => (duties_cell m ρ c k r).trans (dut_later k r hr)

/-- All of a round's payments to a cell. -/
theorem rest_cell (c : Dev nD) (k : Kd) (r : ℕ) :
    bigSep ((sched (F := F) m ρ).duties (cell c k) r \ ∅) (fun d => (sched (F := F) m ρ).payload (cell c k) r d) = bigSep (dut k r) (pay m ρ c k r) := by
  rw [Finset.sdiff_empty, duties_cell]; exact bigSep_congr fun d _ => payload_cell m ρ c k r d

/-! ## What a device owes, and the levels -/

/-- The cell that the payer of payment `d` to a cell of kind `k` pays. -/
def tgt : Kd → Fin 3 → (Dev nD ≃ Dev nD)
  | .bar, d => if d = 0 then ringE else if d = 1 then ringE.symm else pairE
  | .rsR _, _ => ringE
  | .agR _, _ => ringE
  | .zxR _, _ => pairE
  | _, _ => Equiv.refl _

/-- What device `c` owes for the payments listed. -/
def owe (c : Dev nD) (l : List (Kd × Fin 3)) : CellTallies nD τ sig Unit := (l.map fun p => tallyAt (cell (tgt p.1 p.2 c) p.1) () (amt p.1)).sum
/-- Every payment that a device makes to another device's cell, in the order it makes them. -/
def dues : List (Kd × Fin 3) :=
  [(.bar, 1), (.bar, 0), (.bar, 2), (.rsR 0, 0), (.rsR 1, 0), (.rsR 2, 0), (.zxR 0, 0), (.agR 0, 0), (.zxR 1, 0), (.agR 1, 0), (.zxR 2, 0), (.agR 2, 0), (.zxR 3, 0)]

/-- With nothing to pay nothing is owed. -/
theorem owe_nil (c : Dev nD) : owe c [] = 0 := rfl
/-- One more payment adds its units at the cell paid. -/
theorem owe_cons (c : Dev nD) (p : Kd × Fin 3) (l : List (Kd × Fin 3)) :
    owe c (p :: l) = owe c l + tallyAt (cell (tgt p.1 p.2 c) p.1) () (amt p.1) := by
  unfold owe; rw [List.map_cons, List.sum_cons, add_comm]

/-- A cell that is owed something is the target of a payment in the list. -/
theorem owe_pos (c : Dev nD) {g : GSem nD τ sig} {u : Unit} : ∀ {l : List (Kd × Fin 3)}, 0 < owe c l g u → ∃ p ∈ l, g = cell (tgt p.1 p.2 c) p.1
  | [], h => absurd h (Nat.lt_irrefl 0)
  | p :: l, h => by
    rw [owe_cons, Pi.add_apply, Finsupp.add_apply, tallyAt_apply] at h
    by_cases hg : g = cell (tgt p.1 p.2 c) p.1
    · exact ⟨p, List.mem_cons_self, hg⟩
    · rw [if_neg fun h' => hg h'.1, Nat.add_zero] at h
      obtain ⟨p', hp, hg'⟩ := owe_pos c h
      exact ⟨p', List.mem_cons_of_mem _ hp, hg'⟩

/-- The level of a kind: a device waits on a cell only while every cell it still owes is of a higher level. -/
def lvl : Kd → ℕ
  | .bar => 1
  | .rsR s => 2 + s.val
  | .agR s => 5 + s.val
  | .zxR _ => 8
  | _ => 0

/-- The cells that have a level: those of the main cores. -/
def L (g : GSem nD τ sig) : Finset Unit := if g.1.2 = .tc then {()} else ∅
/-- The level of a cell: its kind's, and the lowest where it is none of the kernel's. -/
def lv (g : GSem nD τ sig) (_ : Unit) : ℕ := match kd? g.2 with | some k => lvl k | none => 0

/-- Other cells have no level, -/
theorem L_of_ne (g : GSem nD τ sig) (h : g.1.2 ≠ .tc) : L g = ∅ := if_neg h
/-- a main core's cells have one, -/
theorem L_tc (c : Dev nD) (sm : SemLoc sig) : L ((c : Thread nD τ), sm) = {()} := if_pos rfl
/-- and a cell of the kernel has its kind's. -/
theorem lv_cell (c : Dev nD) (k : Kd) (u : Unit) : lv (cell c k) u = lvl k := by
  show (match kd? (csem k) with | some k => lvl k | none => 0) = _
  rw [kd_csem]

/-- A device may wait on a semaphore whose level is below that of every payment it owes. -/
theorem mayWait_owe (c : Dev nD) (sm : SemLoc sig) (n : ℕ) (hn : lv ((c : Thread nD τ), sm) () ≤ n) (l : List (Kd × Fin 3))
    (h : ∀ p ∈ l, n < lvl p.1) : (levAts L lv : sProp 𝕄) ⊢ MayWait (c : Thread nD τ) sm () (owe c l) :=
  MayOwe.of_cut (L := L) (lev := lv) n (fun p hp => by rw [Finset.mem_singleton.mp hp, L_tc]; exact Finset.mem_singleton_self _)
    (fun g u hg => by obtain ⟨p, _, rfl⟩ := owe_pos c hg; exact Finset.mem_singleton_self _)
    (fun p hp => by rw [Finset.mem_singleton.mp hp]; exact hn)
    (fun g u hg => by obtain ⟨p, hp, rfl⟩ := owe_pos c hg; rw [lv_cell]; exact h p hp)

/-- The same for one of the kernel's cells. -/
theorem mayWait_cell (c : Dev nD) (k : Kd) (l : List (Kd × Fin 3)) (h : ∀ p ∈ l, lvl k < lvl p.1) :
    (levAts L lv : sProp 𝕄) ⊢ MayWait (c : Thread nD τ) (csem k) () (owe c l) :=
  mayWait_owe c (csem k) (lvl k) (le_of_eq (lv_cell c k ())) l h

end Cert.Fused

end
-- ==== Proof.Steps.lean ====
/- One rule for each kind of step of the kernel's body, at a symbolic cell: a signal to a neighbour's barrier, a transfer
   to a neighbour, a copy within the device, and a wait. -/
module

public import proofs.«01_k».proof.Proof.Sched
public import Idealize.ShloMosaic.Lib.MemrefSat

@[expose] public section

set_option maxRecDepth 16384

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- No loop of the program needs a measure. -/
abbrev 𝒱₀ : Variants := Variants.none

/-- The weakest precondition of a program of device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The launch's records -/

variable (K : Dev nD × Kd → ℕ)

/-- Every cell's invariant, every cell's first round reached, and the levels. -/
def recs : sProp 𝕄 :=
  iprop((bigSep Finset.univ fun p : Dev nD × Kd => cellInv ER (sched (F := F) m ρ) (K p) (cell p.1 p.2))
    ∗ (bigSep Finset.univ fun p : Dev nD × Kd => reached (ER (F := F)) (cell p.1 p.2) 0) ∗ levAts L lv)

/-- The records may be used any number of times. -/
instance recs_persistent : BI.Persistent (recs m ρ K) := by unfold recs; infer_instance

/-- One cell's invariant out of all of them. -/
theorem invs_at (c : Dev nD) (k : Kd) :
    (bigSep Finset.univ fun p : Dev nD × Kd => (cellInv ER (sched (F := F) m ρ) (K p) (cell p.1 p.2) : sProp 𝕄))
      ⊢ cellInv ER (sched (F := F) m ρ) (K (c, k)) (cell c k) := bigSep_elim (Finset.mem_univ (c, k))
/-- One cell's first round out of all of them. -/
theorem reached_at (c : Dev nD) (k : Kd) :
    (bigSep Finset.univ fun p : Dev nD × Kd => (reached ER (cell p.1 p.2) 0 : sProp 𝕄)) ⊢ reached ER (cell c k) 0 :=
  bigSep_elim (Finset.mem_univ (c, k))
/-- The records give a cell's invariant, -/
theorem recs_inv (c : Dev nD) (k : Kd) : recs m ρ K ⊢ cellInv ER (sched (F := F) m ρ) (K (c, k)) (cell c k) := by
  unfold recs; iintro ⟨H, -, -⟩; iapply (invs_at m ρ K c k); iexact H
/-- its first round, -/
theorem recs_reached (c : Dev nD) (k : Kd) : recs m ρ K ⊢ reached (ER (F := F)) (cell c k) 0 := by
  unfold recs; iintro ⟨-, H, -⟩; iapply (reached_at c k); iexact H
/-- and the levels. -/
theorem recs_lev : recs m ρ K ⊢ levAts L lv := by
  unfold recs; iintro ⟨-, -, H⟩; iexact H

/-- What device `c` owes, its record of past waits left open. -/
def OW (c : Dev nD) (l : List (Kd × Fin 3)) : sProp 𝕄 := iprop(∃ W, owes (c : Thread nD τ) (owe c l) W)

/-! ## Signals -/

/-- A signal to another device's barrier: it pays what it owes there and hands over the payload. -/
theorem step_signal {n c : Dev nD} (d : Fin 3) (n0 : Dev nD) (hn : n = n0) (hn0 : n0 = tgt .bar d c) {k' : ℕ} (hk' : k' = 1) (l : List (Kd × Fin 3))
    {α : Type} {Q : α → sProp 𝕄} {k : PUnit → Prog (TpuEff nD τ sig (Elt F) Λ₀ .tc) α} :
    iprop(recs m ρ K ∗ OW c ((.bar, d) :: l) ∗ dutyTok ER (cell n0 .bar) 0 d ∗ pay m ρ n0 .bar 0 d)
      ⊢ iprop((OW c l -∗ wpc c (k ⟨⟩) Q) -∗ wpc c (.op (.semSignal (Dev.tc n : Thread nD τ) barS k') k) Q) := by
  subst hn hn0 hk'
  unfold OW
  iintro ⟨#HR, ⟨%W, HO⟩, Ht, Hp⟩ Hk
  iapply (Rounds.wp_signal 𝒱₀ ER (sched (F := F) m ρ) (c : Thread nD τ) none (dst := (tgt .bar d c : Thread nD τ)) (κ := K (tgt .bar d c, .bar)) (d := d) (r := 0)
      (by rw [show ((tgt .bar d c : Thread nD τ), SemLoc.reg barS) = cell (tgt .bar d c) .bar from rfl, duties_cell]; exact Finset.mem_univ _)
      (amount_cell m ρ (tgt .bar d c) .bar 0 d) () (owe c l) (owe_cons c (.bar, d) l)) $$ [HO Ht Hp]
  · isplitr; · iapply (recs_inv m ρ K (tgt .bar d c) .bar); iexact HR
    isplitl [HO]; · iexact HO
    isplitl [Ht]; · iexact Ht
    isplitl [Hp]; · iapply (Entails.of_eq (payload_cell m ρ (tgt .bar d c) .bar 0 d).symm); iexact Hp
    iapply (recs_reached m ρ K (tgt .bar d c) .bar); iexact HR
  iintro HO
  iapply Hk; iexists W; iexact HO

/-! ## Transfers -/

/-- What sending through a send cell needs: the device's place at the cell and the token of its one payment. -/
def sT (c : Dev nD) (k : Kd) : sProp 𝕄 := iprop(atPos (ER (F := F)) (cell c k) 0 ∅ 0 ∗ dutyTok ER (cell c k) 0 0)
/-- What waiting on a cell of one round needs: the device's place at the cell and the credit of its one payment. -/
def rT (c : Dev nD) (k : Kd) : sProp 𝕄 := iprop(atPos (ER (F := F)) (cell c k) 0 ∅ 0 ∗ cred (tallyAt (cell c k) () N0))
/-- The token of a payment to a neighbour's receive cell. -/
def pT (c : Dev nD) (k : Kd) : sProp 𝕄 := dutyTok (ER (F := F)) (cell (tgt k 0 c) k) 0 0
/-- The device's place at the copies' cell before round `r`. -/
def cpT (c : Dev nD) (r : ℕ) : sProp 𝕄 := iprop(atPos (ER (F := F)) (cell c .cp) r ∅ 0 ∗ reached ER (cell c .cp) r)
/-- The token of round `r` of the copies' cell. -/
def cT (c : Dev nD) (r : ℕ) : sProp 𝕄 := dutyTok (ER (F := F)) (cell c .cp) r 0
/-- The copies' cell with the copy of round `r` under way. -/
def cpW (c : Dev nD) (r : ℕ) : sProp 𝕄 := iprop(atPos (ER (F := F)) (cell c .cp) r ∅ 0 ∗ cred (tallyAt (cell c .cp) () N0))
/-- A closed cell. -/
def Z (c : Dev nD) (k : Kd) : sProp 𝕄 := semVal (cell c k) 0

section Send

variable {c n : Dev nD} {sp sp' : Space} {src : Memref sig .tc sp S512x4096 .f32} {dst : Memref sig (Dev.tc n : Thread nD τ).2.kind sp' S512x4096 .f32}

/-- A transfer to a neighbour, paying the one payment of the issuer's send cell and one of the neighbour's receive cell. -/
theorem step_send (k1 k2 : Kd) (n0 : Dev nD) (hn : n = n0) (src0 : Memref sig .tc sp S512x4096 .f32) (hs : src = src0)
    (dst0 : Memref sig (Dev.tc n0 : Thread nD τ).2.kind sp' S512x4096 .f32) (hd : dst = dst0)
    {sS sR : DmaSem sig} (h1 : csem k1 = .dma sS) (h2 : csem k2 = .dma sR) (hn0 : n0 = tgt k2 0 c)
    (hd1 : 0 ∈ dut k1 0) (hd2 : 0 ∈ dut k2 0) (ha1 : amt k1 = N0) (ha2 : amt k2 = N0)
    {hsc : dst.view.ref.isScScratch = false}
    {hsrc : src.view.WordExact} {hdst : dst.view.WordExact}
    {hsem : DmaTarget.Typed sp (.dma sR) (.remote (Dev.tc n : Thread nD τ) dst (.dma sS) hsc)}
    (l : List (Kd × Fin 3)) {q : PosShare TreeShare} {X : Vec F S512x4096 .f32}
    (hp1 : owns (c : Thread nD τ) src0 q X ⊢ pay m ρ c k1 0 0) (hp2 : owns (n0 : Thread nD τ) dst0 fullShare X ⊢ pay m ρ n0 k2 0 0)
    {α : Type} {Q : α → sProp 𝕄} {k : PUnit → Prog (TpuEff nD τ sig (Elt F) Λ₀ .tc) α} :
    iprop(recs m ρ K ∗ OW c ((k2, 0) :: l) ∗ owns (c : Thread nD τ) src0 q X ∗ (∃ Y, owns (n0 : Thread nD τ) dst0 fullShare Y)
        ∗ sT c k1 ∗ pT c k2)
      ⊢ iprop(((rT c k1 ∗ OW c l) -∗ wpc c (k ⟨⟩) Q)
          -∗ wpc c (.op (.enqueueDma src (.remote (Dev.tc n : Thread nD τ) dst (.dma sS) hsc) (.dma sR) hsrc hdst hsem) k) Q) := by
  subst hn hs hd
  have hc1 : ((c : Thread nD τ), SemLoc.dma sS) = cell c k1 := by rw [← h1]
  have hc2 : ((n : Thread nD τ), SemLoc.dma sR) = cell n k2 := by rw [← h2]
  have hO := owe_cons c (k2, 0) l
  rw [← hn0, ha2, ← hc2] at hO
  unfold OW sT rT pT
  rw [← hn0, ← hc1, ← hc2]
  iintro ⟨#HR, ⟨%W, HO⟩, Hs, ⟨%Y, Hd⟩, ⟨Hat, Ht1⟩, Ht2⟩ Hk
  ihave Hs' := (show owns (c : Thread nD τ) src q X ⊢ iprop(∃ f, ⌜src.view.read (Elt F) f = X⌝ ∗ (src.view.loc (c : Thread nD τ) ↦[src.view.set]{q} f)) from .rfl) $$ Hs
  ihave Hd' := (show owns (n : Thread nD τ) dst fullShare Y ⊢ iprop(∃ f, ⌜dst.view.read (Elt F) f = Y⌝ ∗ (dst.view.loc (n : Thread nD τ) ↦[dst.view.set]{fullShare} f)) from .rfl) $$ Hd
  icases Hs' with ⟨%fs, %hs, Hs⟩
  icases Hd' with ⟨%fd, %hd, Hd⟩
  subst hs
  iapply (Rounds.wp_send_pointsTo 𝒱₀ ER (sched (F := F) m ρ) (c : Thread nD τ) none (κ₁ := K (c, k1)) (κ₂ := K (n, k2)) (src := src) (dst := dst) (q := q)
      (r₁ := 0) (r₂ := 0) (d₁ := 0) (d₂ := 0) (fs := fs) (fd := fd)
      (by rw [hc1, duties_cell]; exact hd1) (by rw [hc2, duties_cell]; exact hd2) () () N0 (amount_any dst sR)
      (by rw [hc1, amount_cell, ha1]) (by rw [hc2, amount_cell, ha2]) (owe c l) hO (W := W)
      (by rw [hc1, payload_cell]; exact (owns_intro (c : Thread nD τ) src q fs).trans hp1)
      (by rw [hc2, payload_cell]
          have h := owns_intro (Ix := Unit) (Name := ℕ) (U := UU) (Lvl := ℕ) (n : Thread nD τ) dst fullShare (dst.view.write (Elt F) fd (src.view.read (Elt F) fs) Finset.univ)
          rw [View.read_write_univ] at h
          exact h.trans hp2)) $$ [HO Hs Hd Ht1 Ht2]
  · isplitr; · rw [hc1]; iapply (recs_inv m ρ K c k1); iexact HR
    isplitr; · rw [hc2]; iapply (recs_inv m ρ K n k2); iexact HR
    isplitl [Hs]; · iexact Hs
    isplitl [Hd]; · iexact Hd
    isplitl [HO]; · iexact HO
    isplitl [Ht1]; · iexact Ht1
    isplitr; · rw [hc1]; iapply (recs_reached m ρ K c k1); iexact HR
    isplitl [Ht2]; · iexact Ht2
    rw [hc2]; iapply (recs_reached m ρ K n k2); iexact HR
  iintro ⟨Hc, HO⟩
  iapply Hk; isplitl [Hat Hc]
  · isplitl [Hat] <;> iassumption
  iexists W; iexact HO

end Send

/-- A copy within the device, paying round `r` of the copies' cell. -/
theorem step_copy {c : Dev nD} {sp sp' : Space} {src : Memref sig .tc sp S512x4096 .f32} {dst : Memref sig .tc sp' S512x4096 .f32}
    (r : ℕ) (src0 : Memref sig .tc sp S512x4096 .f32) (hs : src = src0)
    (dst0 : Memref sig .tc sp' S512x4096 .f32) (hd : dst = dst0) (hr : r < 5)
    {sR : DmaSem sig} (h2 : csem .cp = .dma sR) {hsrc : src.view.WordExact} {hdst : dst.view.WordExact}
    {hsem : DmaTarget.Typed (nD := nD) (τ := τ) (p := .tc) sp (.dma sR) (.here dst)}
    {q : PosShare TreeShare} {X : Vec F S512x4096 .f32}
    (hp : iprop(owns (c : Thread nD τ) dst0 fullShare X ∗ owns (c : Thread nD τ) src0 q X) ⊢ pay m ρ c .cp r 0)
    {α : Type} {Q : α → sProp 𝕄} {k : PUnit → Prog (TpuEff nD τ sig (Elt F) Λ₀ .tc) α} :
    iprop(recs m ρ K ∗ owns (c : Thread nD τ) src0 q X ∗ (∃ Y, owns (c : Thread nD τ) dst0 fullShare Y) ∗ cT c r ∗ cpT c r)
      ⊢ iprop((cpW c r -∗ wpc c (k ⟨⟩) Q) -∗ wpc c (.op (.enqueueDma src (.here dst) (.dma sR) hsrc hdst hsem) k) Q) := by
  subst hs hd
  have hc2 : ((c : Thread nD τ), SemLoc.dma sR) = cell c .cp := by rw [← h2]
  unfold cT cpT cpW
  rw [← hc2]
  iintro ⟨#HR, Hs, ⟨%Y, Hd⟩, Ht, Hat, #Hr⟩ Hk
  ihave Hs' := (show owns (c : Thread nD τ) src q X ⊢ iprop(∃ f, ⌜src.view.read (Elt F) f = X⌝ ∗ (src.view.loc (c : Thread nD τ) ↦[src.view.set]{q} f)) from .rfl) $$ Hs
  ihave Hd' := (show owns (c : Thread nD τ) dst fullShare Y ⊢ iprop(∃ f, ⌜dst.view.read (Elt F) f = Y⌝ ∗ (dst.view.loc (c : Thread nD τ) ↦[dst.view.set]{fullShare} f)) from .rfl) $$ Hd
  icases Hs' with ⟨%fs, %hs, Hs⟩
  icases Hd' with ⟨%fd, %hd', Hd⟩
  subst hs
  iapply (Rounds.wp_copy_pointsTo 𝒱₀ ER (sched (F := F) m ρ) (c : Thread nD τ) none (κ := K (c, .cp)) (src := src) (dst := dst) (q := q)
      (r := r) (d := 0) (fs := fs) (fd := fd)
      (by rw [hc2, duties_cell]; show (0 : Fin 3) ∈ (if r < 5 then {0} else ∅ : Finset (Fin 3)); rw [if_pos hr]; exact Finset.mem_singleton_self _)
      () N0 (amount_any dst sR) (by rw [hc2, amount_cell]; rfl)
      (by rw [hc2, payload_cell]
          have h := owns_intro (Ix := Unit) (Name := ℕ) (U := UU) (Lvl := ℕ) (c : Thread nD τ) dst fullShare (dst.view.write (Elt F) fd (src.view.read (Elt F) fs) Finset.univ)
          rw [View.read_write_univ] at h
          exact (BI.sep_mono h (owns_intro (c : Thread nD τ) src q fs)).trans hp)) $$ [Hs Hd Ht]
  · isplitr; · rw [hc2]; iapply (recs_inv m ρ K c .cp); iexact HR
    isplitl [Hs]; · iexact Hs
    isplitl [Hd]; · iexact Hd
    isplitl [Ht]; · iexact Ht
    iexact Hr
  iintro Hc
  iapply Hk; isplitl [Hat] <;> iassumption

/-! ## Waits -/

/-- A wait for all of round `R` of one of the device's own cells. -/
theorem step_wait {c : Dev nD} (κ : Kd) (R : ℕ) (l : List (Kd × Fin 3)) (hlv : ∀ p ∈ l, lvl κ < lvl p.1)
    {w : TpuEff nD τ sig (Elt F) Λ₀ .tc PUnit} {sm : SemLoc sig} (hsm : csem κ = sm) {k' n : ℕ}
    (hw : ∀ K' : PUnit → sProp 𝕄, wpE (defs₀ (F := F)) 𝒱₀ (c : Thread nD τ) none Set.univ w K' = waitSpec (c : Thread nD τ) Set.univ sm k' K')
    (hk : k' = n) (hn : n = (dut κ R).card * amt κ)
    {α : Type} {Q : α → sProp 𝕄} {k : PUnit → Prog (TpuEff nD τ sig (Elt F) Λ₀ .tc) α} :
    iprop(recs m ρ K ∗ cred (tallyAt (cell c κ) () n) ∗ OW c l ∗ atPos ER (cell c κ) R ∅ 0)
      ⊢ iprop(((OW c l ∗ atPos ER (cell c κ) (R + 1) ∅ 0 ∗ reached ER (cell c κ) (R + 1) ∗ bigSep (dut κ R) (pay m ρ c κ R)) -∗ wpc c (k ⟨⟩) Q)
          -∗ wpc c (.op w k) Q) := by
  subst hk hsm
  unfold OW
  iintro ⟨#HR, Hc, ⟨%W, HO⟩, Hat⟩ Hk
  iapply (Rounds.wp_wait_rest_token 𝒱₀ ER (sched (F := F) m ρ) (c : Thread nD τ) none (κ := K (c, κ))
      hw (Set.mem_univ _) () (O := owe c l) (W := W) (R := R) (m := 0) (T := ∅)
      (by rw [Nat.zero_add, show ((c : Thread nD τ), csem κ) = cell c κ from rfl, expect_cell]; exact hn)) $$ [Hc HO Hat]
  · isplitr; · iapply (recs_inv m ρ K c κ); iexact HR
    isplitl [Hc]; · iexact Hc
    isplitl [HO]; · iexact HO
    isplitr; · iapply (mayWait_cell c κ l hlv); iapply (recs_lev m ρ K); iexact HR
    iexact Hat
  iintro ⟨HO, Hat, Hr, Hp⟩
  iapply Hk
  isplitl [HO]; · iexists _; iexact HO
  isplitl [Hat]; · iexact Hat
  isplitl [Hr]; · iexact Hr
  iapply (Entails.of_eq (rest_cell m ρ c κ R)); iexact Hp

/-- A cell whose rounds are all over is closed: its counter is zero. -/
theorem close_cell (c : Dev nD) (κ : Kd) : iprop(recs m ρ K ∗ atPos ER (cell c κ) (nR κ) ∅ 0) ⊢ iprop(|={Set.univ}=> semVal (cell c κ) 0) := by
  iintro ⟨#HR, Hat⟩
  iapply (Rounds.cell_close ER (sched (F := F) m ρ) (Set.mem_univ (K (c, κ))) (fun h => h) (R := nR κ) (duties_later m ρ c κ))
  isplitr; · iapply (recs_inv m ρ K c κ); iexact HR
  iexact Hat

/-- A wait on a DMA cell of one round, which closes the cell. -/
theorem step_wait1 {c : Dev nD} (κ : Kd) (l : List (Kd × Fin 3)) (hlv : ∀ p ∈ l, lvl κ < lvl p.1)
    (hR : nR κ = 1) (hd : dut κ 0 = {0}) (ha : amt κ = N0) {sm : DmaSem sig} (hsm : csem κ = .dma sm)
    {sp sp' : Space} {s : Shape} {src : Memref sig .tc sp s .f32} {dst : Memref sig .tc sp' S512x4096 .f32}
    {hsrc : src.view.WordExact} {hdst : dst.view.WordExact}
    {α : Type} {Q : α → sProp 𝕄} {k : PUnit → Prog (TpuEff nD τ sig (Elt F) Λ₀ .tc) α} :
    iprop(recs m ρ K ∗ rT c κ ∗ OW c l)
      ⊢ iprop(((OW c l ∗ Z c κ ∗ pay m ρ c κ 0 0) -∗ wpc c (k ⟨⟩) Q)
          -∗ wpc c (.op (.waitDma2 sm src dst hsrc hdst) k) Q) := by
  have h := step_wait (c := c) (Q := Q) (k := k) m ρ K κ 0 l hlv (n := N0) hsm
    (wpE_waitDma2_eq (src := src) (dst := dst) (hsrc := hsrc) (hdst := hdst) 𝒱₀ (c : Thread nD τ) none Set.univ) (amount_any dst sm)
    (by rw [hd, ha, Finset.card_singleton, Nat.one_mul])
  have hz := close_cell m ρ K c κ
  rw [hd, bigSep_singleton] at h
  rw [hR] at hz
  unfold wpc at h ⊢
  unfold rT Z
  iintro ⟨#HR, ⟨Hat, Hc⟩, HO⟩ Hk
  iapply h $$ [Hc HO Hat]
  · isplitr; · iexact HR
    isplitl [Hc]; · iexact Hc
    isplitl [HO] <;> iassumption
  iintro ⟨HO, Hat, -, Hp⟩
  imod hz $$ [Hat] with Hz
  · isplitr; · iexact HR
    iexact Hat
  iapply Hk
  isplitl [HO]; · iexact HO
  isplitl [Hz] <;> iassumption

/-- An assertion about three things, one by one. -/
theorem bigSep_three (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]; rfl
/-- An assertion about four things, one by one. -/
theorem bigSep_four (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]; rfl

/-- The wait on the barrier, for the three signals at once: it closes the cell. -/
theorem step_waitB {c : Dev nD} (l : List (Kd × Fin 3)) (hlv : ∀ p ∈ l, 1 < lvl p.1) {k' : ℕ} (hk : k' = 3)
    {α : Type} {Q : α → sProp 𝕄} {k : PUnit → Prog (TpuEff nD τ sig (Elt F) Λ₀ .tc) α} :
    iprop(recs m ρ K ∗ cred (tallyAt (cell c .bar) () 3) ∗ OW c l ∗ atPos ER (cell c .bar) 0 ∅ 0)
      ⊢ iprop(((OW c l ∗ Z c .bar ∗ pay m ρ c .bar 0 1 ∗ pay m ρ c .bar 0 2) -∗ wpc c (k ⟨⟩) Q)
          -∗ wpc c (.op (.semWait barS k') k) Q) := by
  have h := step_wait (c := c) (Q := Q) (k := k) m ρ K .bar 0 l hlv (n := 3) (sm := .reg barS) rfl
    (wpE_semWait_eq 𝒱₀ (c : Thread nD τ) none Set.univ) hk rfl
  have hz := close_cell m ρ K c .bar
  rw [show dut .bar 0 = Finset.univ from rfl, bigSep_three] at h
  rw [show nR .bar = 0 + 1 from rfl] at hz
  unfold wpc at h ⊢
  unfold Z
  iintro ⟨#HR, Hc, HO, Hat⟩ Hk
  iapply h $$ [Hc HO Hat]
  · isplitr; · iexact HR
    isplitl [Hc]; · iexact Hc
    isplitl [HO] <;> iassumption
  iintro ⟨HO, Hat, -, -, Hp1, Hp2⟩
  imod hz $$ [Hat] with Hz
  · isplitr; · iexact HR
    iexact Hat
  iapply Hk
  isplitl [HO]; · iexact HO
  isplitl [Hz]; · iexact Hz
  isplitl [Hp1] <;> iassumption

/-- A wait on the copies' cell. -/
theorem step_waitC {c : Dev nD} (r : ℕ) (hr : r < 5) (l : List (Kd × Fin 3)) (hlv : ∀ p ∈ l, 0 < lvl p.1)
    {sm : DmaSem sig} (hsm : csem .cp = .dma sm)
    {sp sp' : Space} {s : Shape} {src : Memref sig .tc sp s .f32} {dst : Memref sig .tc sp' S512x4096 .f32}
    {hsrc : src.view.WordExact} {hdst : dst.view.WordExact}
    {α : Type} {Q : α → sProp 𝕄} {k : PUnit → Prog (TpuEff nD τ sig (Elt F) Λ₀ .tc) α} :
    iprop(recs m ρ K ∗ cpW c r ∗ OW c l)
      ⊢ iprop(((OW c l ∗ cpT c (r + 1) ∗ pay m ρ c .cp r 0) -∗ wpc c (k ⟨⟩) Q)
          -∗ wpc c (.op (.waitDma2 sm src dst hsrc hdst) k) Q) := by
  have hd : dut .cp r = {0} := if_pos hr
  have h := step_wait (c := c) (Q := Q) (k := k) m ρ K .cp r l hlv (n := N0) hsm
    (wpE_waitDma2_eq (src := src) (dst := dst) (hsrc := hsrc) (hdst := hdst) 𝒱₀ (c : Thread nD τ) none Set.univ) (amount_any dst sm)
    (by rw [hd, Finset.card_singleton, Nat.one_mul]; rfl)
  rw [hd, bigSep_singleton] at h
  unfold cpW cpT
  iintro ⟨#HR, ⟨Hat, Hc⟩, HO⟩ Hk
  iapply h $$ [Hc HO Hat]
  · isplitr; · iexact HR
    isplitl [Hc]; · iexact Hc
    isplitl [HO] <;> iassumption
  iintro ⟨HO, Hat, Hr, Hp⟩
  iapply Hk
  isplitl [HO]; · iexact HO
  isplitl [Hat Hr]
  · isplitl [Hat] <;> iassumption
  iexact Hp

/-! ## Loads and stores -/

/-- The elements of a slot, as a load of the whole buffer at the slot reads them. -/
theorem slM_set (s : Fin 3) : (slM s).view.set = (Memref.whole cc0_scratch0 : Memref sig .tc .vmem S3x512x4096 .f32).view.setOn (slotR s).toLoadRect.set :=
  (View.set_reshape (v := ((Memref.whole cc0_scratch0 : Memref sig .tc .vmem S3x512x4096 .f32).slice (slotR s) (fun _ => rfl)).view) _).trans (View.set_slice _ (slotR s))

/-- A load of a slot of the landing buffer: the slot's contents, with the axis of size one kept. -/
theorem step_load_slot {c : Dev nD} (s : Fin 3) {off : Fin 3 → ℕ} {hb : ∀ a, off a + S1x512x4096.size a ≤ S3x512x4096.size a} (ho : off = ![s.val, 0, 0])
    {hl : (Memref.whole cc0_scratch0 : Memref sig .tc .vmem S3x512x4096 .f32).view.LoadsAt (Rect.unit (s := S3x512x4096) off S1x512x4096.size hb).toLoadRect}
    {X : Vec F S512x4096 .f32} {α : Type} {Q : α → sProp 𝕄} {k : Vec F S1x512x4096 .f32 → Prog (TpuEff nD τ sig (Elt F) Λ₀ .tc) α} :
    owns (c : Thread nD τ) (slM s) fullShare X
      ⊢ iprop((∀ v, (⌜shapeCast S512x4096 v shapeCasts_S1x512x4096_S512x4096 = X⌝ ∗ owns (c : Thread nD τ) (slM s) fullShare X) -∗ wpc c (k v) Q)
          -∗ wpc c (.op (.load (Memref.whole cc0_scratch0) (Rect.unit (s := S3x512x4096) off S1x512x4096.size hb).toLoadRect hl) k) Q) := by
  subst ho
  iintro H Hk
  ihave H' := (show owns (c : Thread nD τ) (slM s) fullShare X
    ⊢ iprop(∃ f, ⌜(slM s).view.read (Elt F) f = X⌝ ∗ ((slM s).view.loc (c : Thread nD τ) ↦[(slM s).view.set]{fullShare} f)) from .rfl) $$ H
  icases H' with ⟨%f, %hf, H⟩
  subst hf
  ihave H := (show ((slM s).view.loc (c : Thread nD τ) ↦[(slM s).view.set]{fullShare} f : sProp 𝕄)
    ⊢ ((Memref.whole cc0_scratch0 : Memref sig .tc .vmem S3x512x4096 .f32).view.loc (c : Thread nD τ) ↦[(slM s).view.set]{fullShare} f) from .rfl) $$ H
  iapply (wp_load 𝒱₀ (c : Thread nD τ) none Set.univ (m := (Memref.whole cc0_scratch0 : Memref sig .tc .vmem S3x512x4096 .f32))
    (S := (slM s).view.set) (f := f) (slM_set s).ge) $$ H
  iintro H
  iapply Hk
  isplitr
  · ipureintro; rfl
  iapply (owns_intro (c : Thread nD τ) (slM s) fullShare f); iexact H

end Cert.Fused

end
-- ==== Proof.Moves.lean ====
/- The steps of the body at the kernel's own transfers, loads and stores: a round of the reduction, a round of the gather, an
   exchange with the partner. -/
module

public import proofs.«01_k».proof.Proof.Steps
public import Idealize.ShloMosaic.Lib.Pipeline.Value

@[expose] public section

set_option maxRecDepth 16384

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Kd → ℕ)

/-- What is left to pay after all thirteen payments: nothing. -/
abbrev du13 : List (Kd × Fin 3) := []
/-- What is left to pay after twelve payments. -/
abbrev du12 : List (Kd × Fin 3) := (.zxR 3, 0) :: du13
/-- What is left to pay after eleven payments. -/
abbrev du11 : List (Kd × Fin 3) := (.agR 2, 0) :: du12
/-- What is left to pay after ten payments. -/
abbrev du10 : List (Kd × Fin 3) := (.zxR 2, 0) :: du11
/-- What is left to pay after nine payments. -/
abbrev du9 : List (Kd × Fin 3) := (.agR 1, 0) :: du10
/-- What is left to pay after eight payments. -/
abbrev du8 : List (Kd × Fin 3) := (.zxR 1, 0) :: du9
/-- What is left to pay after seven payments. -/
abbrev du7 : List (Kd × Fin 3) := (.agR 0, 0) :: du8
/-- What is left to pay after six payments. -/
abbrev du6 : List (Kd × Fin 3) := (.zxR 0, 0) :: du7
/-- What is left to pay after five payments. -/
abbrev du5 : List (Kd × Fin 3) := (.rsR 2, 0) :: du6
/-- What is left to pay after four payments. -/
abbrev du4 : List (Kd × Fin 3) := (.rsR 1, 0) :: du5
/-- What is left to pay after three payments. -/
abbrev du3 : List (Kd × Fin 3) := (.rsR 0, 0) :: du4
/-- What is left to pay after two payments. -/
abbrev du2 : List (Kd × Fin 3) := (.bar, 2) :: du3
/-- What is left to pay after one payment. -/
abbrev du1 : List (Kd × Fin 3) := (.bar, 0) :: du2
/-- What is left to pay at the start: all thirteen payments. -/
abbrev du0 : List (Kd × Fin 3) := (.bar, 1) :: du1

/-- A finished program. -/
theorem wpc_ret (c : Dev nD) {α : Type} {a : α} {Q : α → sProp 𝕄} : Q a ⊢ wpc c (.ret a) Q := by
  unfold wpc; rw [wp_ret]; iintro H; imodintro; iexact H

/-- A program followed by another. -/
theorem wpc_bind (c : Dev nD) {α β : Type} {p : Prog (TpuEff nD τ sig (Elt F) Λ₀ .tc) α} {k : α → Prog (TpuEff nD τ sig (Elt F) Λ₀ .tc) β} {Q : β → sProp 𝕄} :
    wpc c p (fun a => wpc c (k a) Q) ⊢ wpc c (p >>= k) Q := by
  unfold wpc; exact Entails.of_eq (wp_bind _ _ _ p k Q).symm

/-! ## Loads and stores of whole buffers -/

/-- The offset zero of a buffer of two axes. -/
theorem zero2 : (![0, 0] : Fin 2 → ℕ) = fun _ => 0 := funext fun a => by fin_cases a <;> rfl
/-- The offset zero of a buffer of one axis. -/
theorem zero1 : (![0] : Fin 1 → ℕ) = fun _ => 0 := funext fun a => by fin_cases a; rfl

/-- A load of all of a buffer reads its contents. -/
theorem step_load {c : Dev nD} {s : Shape} (M : Memref sig .tc .vmem s .f32) {r : LoadRect s} {X : Vec F s .f32} {Y : Vec F r.shape .f32}
    (hr : ∀ f : M.view.ty.Contents (Elt F), M.view.read (Elt F) f = X → M.view.readAt (Elt F) r f = Y)
    {hl : M.view.LoadsAt r} {q : PosShare TreeShare}
    {α : Type} {Q : α → sProp 𝕄} {k : Vec F r.shape .f32 → Prog (TpuEff nD τ sig (Elt F) Λ₀ .tc) α} :
    owns (c : Thread nD τ) M q X
      ⊢ iprop((owns (c : Thread nD τ) M q X -∗ wpc c (k Y) Q) -∗ wpc c (.op (.load M r hl) k) Q) := by
  iintro H Hk
  ihave H' := (show owns (c : Thread nD τ) M q X ⊢ iprop(∃ f, ⌜M.view.read (Elt F) f = X⌝ ∗ (M.view.loc (c : Thread nD τ) ↦[M.view.set]{q} f)) from .rfl) $$ H
  icases H' with ⟨%f, %hf, H⟩
  iapply (wp_load 𝒱₀ (c : Thread nD τ) none Set.univ (m := M) (View.setOn_subset_set _ _)) $$ H
  iintro H
  rw [hr f hf]
  iapply Hk
  subst hf
  iapply (owns_intro (c : Thread nD τ) M q f); iexact H

/-- A store over all of a buffer replaces its contents. -/
theorem step_store {c : Dev nD} {s : Shape} (M : Memref sig .tc .vmem s .f32) {r : Rect s} {w : Vec F r.shape .f32} {Y : Vec F s .f32}
    (hw : ∀ f : M.view.ty.Contents (Elt F), M.view.read (Elt F) ((M.access r).write (Elt F) f w Finset.univ) = Y)
    {hx : (M.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    iprop(∃ X, owns (c : Thread nD τ) M fullShare X)
      ⊢ iprop((owns (c : Thread nD τ) M fullShare Y -∗ wpc c (k ⟨⟩) Q) -∗ wpc c (.op (.store M r w Finset.univ hx hm) k) Q) := by
  iintro ⟨%X, H⟩ Hk
  ihave H' := (show owns (c : Thread nD τ) M fullShare X ⊢ iprop(∃ f, ⌜M.view.read (Elt F) f = X⌝ ∗ (M.view.loc (c : Thread nD τ) ↦[M.view.set]{fullShare} f)) from .rfl) $$ H
  icases H' with ⟨%f, %hf, H⟩
  iapply (wp_store 𝒱₀ (c : Thread nD τ) none Set.univ (m := M) (r := r) (S := M.view.set) (Mk := Finset.univ) (f := f)
    ((View.setOn_subset_set _ _).trans (View.set_slice_subset _ r))) $$ H
  iintro H
  iapply Hk
  have h := owns_intro (Ix := Unit) (Name := ℕ) (U := UU) (Lvl := ℕ) (c : Thread nD τ) M fullShare ((M.access r).write (Elt F) f w Finset.univ)
  rw [hw f] at h
  iapply h; iexact H

/-- The rectangle of all of a buffer of 512 rows. -/
abbrev allR : Rect S512x4096 := Rect.unit (s := S512x4096) ![0, 0] S512x4096.size inb_S512x4096_S512x4096_0_0

/-- A load of the whole running sum reads its contents. -/
theorem rd_acc {X : Vec F S512x4096 .f32} (f : accM.view.ty.Contents (Elt F)) (h : accM.view.read (Elt F) f = X) :
    accM.view.readAt (Elt F) allR.toLoadRect f = X := (Memref.readAt_unit_zero (Elt F) cc0_scratch1 zero2 _ f).trans h
/-- A load of the whole copy buffer reads its contents. -/
theorem rd_tmp {X : Vec F S512x4096 .f32} (f : tmpM.view.ty.Contents (Elt F)) (h : tmpM.view.read (Elt F) f = X) :
    tmpM.view.readAt (Elt F) allR.toLoadRect f = X := (Memref.readAt_unit_zero (Elt F) cc0_scratch2 zero2 _ f).trans h
/-- A load of the whole staged scale reads its contents. -/
theorem rd_gam {X : Vec F S4096 .f32} (f : gamM.view.ty.Contents (Elt F)) (h : gamM.view.read (Elt F) f = X) :
    gamM.view.readAt (Elt F) (Rect.unit (s := S4096) ![0] S4096.size inb_S4096_S4096_0).toLoadRect f = X :=
  (Memref.readAt_unit_zero (Elt F) cc0_stg0_0 zero1 _ f).trans h
/-- A store over the whole running sum leaves the stored value. -/
theorem wr_acc (w : Vec F S512x4096 .f32) (f : accM.view.ty.Contents (Elt F)) :
    accM.view.read (Elt F) ((accM.access allR).write (Elt F) f w Finset.univ) = w :=
  (View.read_whole _ _).trans (Memref.write_access_unit_zero_univ (Elt F) cc0_scratch1 zero2 _ f w)

/-- The kernel's addition of a landed block and a copied one. -/
theorem pay1_eq {v : Vec F S1x512x4096 .f32} {X Y : Vec F S512x4096 .f32} (h : shapeCast S512x4096 v shapeCasts_S1x512x4096_S512x4096 = X) :
    k0_pay1 v Y = addf X Y := by unfold k0_pay1; dsimp only; rw [shapeCast_self, h]
/-- The same, as the second round prints it. -/
theorem pay2_eq {v : Vec F S1x512x4096 .f32} {X Y : Vec F S512x4096 .f32} (h : shapeCast S512x4096 v shapeCasts_S1x512x4096_S512x4096 = X) :
    k0_pay2 v Y = addf X Y := by unfold k0_pay2; dsimp only; rw [h]
/-- A value cast to its own shape is itself. -/
theorem pay3_eq (X : Vec F S512x4096 .f32) : k0_pay3 X = X := by unfold k0_pay3; dsimp only; rw [shapeCast_self]
/-- The addition as the third round prints it. -/
theorem pay4_eq {v : Vec F S1x512x4096 .f32} {X Y : Vec F S512x4096 .f32} (h : shapeCast S512x4096 v shapeCasts_S1x512x4096_S512x4096 = X) :
    k0_pay4 v Y = addf X Y := by unfold k0_pay4; dsimp only; rw [shapeCast_self, h]

/-! ## Sources -/

/-- A block of the device's partial sums, at some share. -/
def srcP (c : Dev nD) (k : Fin 4) : sProp 𝕄 := iprop(∃ q, owns (c : Thread nD τ) (pM (blk c k)) q (pc m ρ c k))
/-- The block of the residual that the device adds, at some share. -/
def srcR (c : Dev nD) : sProp 𝕄 := iprop(∃ q, owns (c : Thread nD τ) (rM (blk c 1)) q (rc m ρ c))
/-- The buffer that blocks are copied to, at any contents. -/
def tmpAny (c : Dev nD) : sProp 𝕄 := iprop(∃ X, owns (c : Thread nD τ) tmpM fullShare X)

/-! ## Transfers -/

section

variable {c n : Dev nD} (l : List (Kd × Fin 3))

/-- Round `s` of the reduction: the running sum goes to the next device's slot `s`. -/
theorem send_rs (s : Fin 3) {sp : Space} {src : Memref sig .tc sp S512x4096 .f32} {dst : Memref sig (Dev.tc n : Thread nD τ).2.kind .vmem S512x4096 .f32}
    (hn : n = rt c) (src0 : Memref sig .tc sp S512x4096 .f32) (hs : src = src0) (hd : dst = slM s) {q : PosShare TreeShare}
    (hp : owns (c : Thread nD τ) src0 q (acc m ρ s.val c) ⊢ pay m ρ c (.rsS s) 0 0)
    {sS sR : DmaSem sig} (h1 : csem (.rsS s) = .dma sS) (h2 : csem (.rsR s) = .dma sR)
    {hsc : dst.view.ref.isScScratch = false} {hsrc : src.view.WordExact} {hdst : dst.view.WordExact}
    {hsem : DmaTarget.Typed sp (.dma sR) (.remote (Dev.tc n : Thread nD τ) dst (.dma sS) hsc)}
    {α : Type} {Q : α → sProp 𝕄} {k : PUnit → Prog (TpuEff nD τ sig (Elt F) Λ₀ .tc) α} :
    iprop(recs m ρ K ∗ OW c ((.rsR s, 0) :: l) ∗ owns (c : Thread nD τ) src0 q (acc m ρ s.val c) ∗ slAny (rt c) s ∗ sT c (.rsS s) ∗ pT c (.rsR s))
      ⊢ iprop(((rT c (.rsS s) ∗ OW c l) -∗ wpc c (k ⟨⟩) Q)
          -∗ wpc c (.op (.enqueueDma src (.remote (Dev.tc n : Thread nD τ) dst (.dma sS) hsc) (.dma sR) hsrc hdst hsem) k) Q) :=
  step_send m ρ K (.rsS s) (.rsR s) (rt c) hn src0 hs (slM s) hd h1 h2 rfl (Finset.mem_singleton_self _) (Finset.mem_singleton_self _) rfl rfl l hp
    (by show _ ⊢ owns (rt c : Thread nD τ) (slM s) fullShare (acc m ρ s.val (lf (rt c))); rw [lf_rt])

/-- Round `s` of the gather: a finished block goes to the next device. -/
theorem send_ag (s : Fin 3) {src : Memref sig .tc .hbm S512x4096 .f32} {dst : Memref sig (Dev.tc n : Thread nD τ).2.kind .hbm S512x4096 .f32}
    (hn : n = rt c) (hs : src = oM (blk c (agk s))) (hd : dst = oM (blk c (agk s)))
    {sS sR : DmaSem sig} (h1 : csem (.agS s) = .dma sS) (h2 : csem (.agR s) = .dma sR)
    {hsc : dst.view.ref.isScScratch = false} {hsrc : src.view.WordExact} {hdst : dst.view.WordExact}
    {hsem : DmaTarget.Typed .hbm (.dma sR) (.remote (Dev.tc n : Thread nD τ) dst (.dma sS) hsc)}
    {α : Type} {Q : α → sProp 𝕄} {k : PUnit → Prog (TpuEff nD τ sig (Elt F) Λ₀ .tc) α} :
    iprop(recs m ρ K ∗ OW c ((.agR s, 0) :: l) ∗ oFin m ρ c (blk c (agk s)) fullShare.right ∗ oAny (rt c) (blk c (agk s)) ∗ sT c (.agS s) ∗ pT c (.agR s))
      ⊢ iprop(((rT c (.agS s) ∗ OW c l) -∗ wpc c (k ⟨⟩) Q)
          -∗ wpc c (.op (.enqueueDma src (.remote (Dev.tc n : Thread nD τ) dst (.dma sS) hsc) (.dma sR) hsrc hdst hsem) k) Q) :=
  step_send m ρ K (.agS s) (.agR s) (rt c) hn (oM (blk c (agk s))) hs (oM (blk c (agk s))) hd h1 h2 rfl (Finset.mem_singleton_self _) (Finset.mem_singleton_self _) rfl rfl l
    (by show _ ⊢ iprop(emp); iintro -; iempintro)
    (by show _ ⊢ oFin m ρ (rt c) (blk (rt c) (zxk s.succ)) fullShare
        unfold oFin; rw [ow_rt, ← blk_lf (rt c) s, lf_rt])

/-- Exchange `j` with the partner: a finished block goes to the device with the other half. -/
theorem send_zx (j : Fin 4) {src : Memref sig .tc .hbm S512x4096 .f32} {dst : Memref sig (Dev.tc n : Thread nD τ).2.kind .hbm S512x4096 .f32}
    (hn : n = pt c) (hs : src = oM (blk c (zxk j))) (hd : dst = oM (blk c (zxk j)))
    {sS sR : DmaSem sig} (h1 : csem (.zxS j) = .dma sS) (h2 : csem (.zxR j) = .dma sR)
    {hsc : dst.view.ref.isScScratch = false} {hsrc : src.view.WordExact} {hdst : dst.view.WordExact}
    {hsem : DmaTarget.Typed .hbm (.dma sR) (.remote (Dev.tc n : Thread nD τ) dst (.dma sS) hsc)}
    {α : Type} {Q : α → sProp 𝕄} {k : PUnit → Prog (TpuEff nD τ sig (Elt F) Λ₀ .tc) α} :
    iprop(recs m ρ K ∗ OW c ((.zxR j, 0) :: l) ∗ oFin m ρ c (blk c (zxk j)) fullShare.left ∗ oAny (pt c) (blk c (zxk j)) ∗ sT c (.zxS j) ∗ pT c (.zxR j))
      ⊢ iprop(((rT c (.zxS j) ∗ OW c l) -∗ wpc c (k ⟨⟩) Q)
          -∗ wpc c (.op (.enqueueDma src (.remote (Dev.tc n : Thread nD τ) dst (.dma sS) hsc) (.dma sR) hsrc hdst hsem) k) Q) :=
  step_send m ρ K (.zxS j) (.zxR j) (pt c) hn (oM (blk c (zxk j))) hs (oM (blk c (zxk j))) hd h1 h2 rfl (Finset.mem_singleton_self _) (Finset.mem_singleton_self _) rfl rfl l
    .rfl
    (by show _ ⊢ oFin m ρ (pt c) (blk (pt (pt c)) (zxk j)) fullShare
        unfold oFin; rw [ow_pt, pt_pt])

end

end Cert.Fused

end
-- ==== Proof.Body1.lean ====
/- The body's rounds of the reduction: the barrier, the three rounds of the ring's sum, the normalisation. -/
module

public import proofs.«01_k».proof.Proof.Moves

@[expose] public section

set_option maxRecDepth 16384

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Kd → ℕ)

/-- What the next device's neighbour hands over at the barrier is what its receiver expects. -/
theorem bar_lf (c : Dev nD) :
    iprop((bigSep Finset.univ fun s : Fin 3 => slAny (F := F) c s) ∗ bigSep Finset.univ fun s : Fin 3 => oAny (F := F) c (blk c (zxk s.succ)))
      ⊢ pay m ρ (lf c) .bar 0 1 := by
  show _ ⊢ iprop((bigSep Finset.univ fun s : Fin 3 => slAny (F := F) (rt (lf c)) s) ∗ bigSep Finset.univ fun s : Fin 3 => oAny (F := F) (rt (lf c)) (blk (lf c) (agk s)))
  simp only [rt_lf, blk_lf]
  exact .rfl

/-- And the same towards the partner. -/
theorem bar_pt (c : Dev nD) :
    (bigSep Finset.univ fun j : Fin 4 => oAny (F := F) c (blk (pt c) (zxk j))) ⊢ pay m ρ (pt c) .bar 0 2 := by
  show _ ⊢ bigSep Finset.univ fun j : Fin 4 => oAny (F := F) (pt (pt c)) (blk (pt c) (zxk j))
  rw [pt_pt]

/-- The body of a round of the reduction after its transfer: the device's own block is copied in, and the round's three
    waits leave the landed block in its slot and the copied one beside it. -/
theorem round_waits {c : Dev nD} (s : Fin 3) (l : List (Kd × Fin 3)) (hlv : ∀ p ∈ l, lvl (.rsR s) < lvl p.1)
    {src : Memref sig .tc .hbm S512x4096 .f32} (hs : src = pM (blk c ⟨3 - s.val, by omega⟩))
    {sC sS sR sC' : DmaSem sig} (hC : csem .cp = .dma sC) (hS : csem (.rsS s) = .dma sS) (hR : csem (.rsR s) = .dma sR) (hC' : csem .cp = .dma sC')
    {e1 : src.view.WordExact} {e2 : tmpM.view.WordExact} {e3 : DmaTarget.Typed (nD := nD) (τ := τ) (p := .tc) .hbm (.dma sC) (.here tmpM)}
    {sp1 sp2 sp3 sp4 sp5 sp6 : Space} {t1 t2 t3 : Shape}
    {a1 : Memref sig .tc sp1 t1 .f32} {b1 : Memref sig .tc sp2 S512x4096 .f32} {x1 : a1.view.WordExact} {y1 : b1.view.WordExact}
    {a2 : Memref sig .tc sp3 t2 .f32} {b2 : Memref sig .tc sp4 S512x4096 .f32} {x2 : a2.view.WordExact} {y2 : b2.view.WordExact}
    {a3 : Memref sig .tc sp5 t3 .f32} {b3 : Memref sig .tc sp6 S512x4096 .f32} {x3 : a3.view.WordExact} {y3 : b3.view.WordExact}
    {α : Type} {Q : α → sProp 𝕄} {k : PUnit → Prog (TpuEff nD τ sig (Elt F) Λ₀ .tc) α} :
    iprop(recs m ρ K ∗ OW c l ∗ rT c (.rsS s) ∗ rT c (.rsR s) ∗ srcP m ρ c ⟨3 - s.val, by omega⟩ ∗ cT c s.val ∗ cpT c s.val ∗ tmpAny c)
      ⊢ iprop(((OW c l ∗ Z c (.rsS s) ∗ Z c (.rsR s) ∗ pay m ρ c (.rsS s) 0 0 ∗ owns (c : Thread nD τ) (slM s) fullShare (acc m ρ s.val (lf c))
            ∗ cpT c (s.val + 1) ∗ owns (c : Thread nD τ) tmpM fullShare (pc m ρ c ⟨3 - s.val, by omega⟩)) -∗ wpc c (k ⟨⟩) Q)
          -∗ wpc c (.op (.enqueueDma src (.here tmpM) (.dma sC) e1 e2 e3) fun _ => .op (.waitDma2 sS a1 b1 x1 y1) fun _ =>
              .op (.waitDma2 sR a2 b2 x2 y2) fun _ => .op (.waitDma2 sC' a3 b3 x3 y3) k) Q) := by
  have hcp : pay m ρ c .cp s.val 0 = owns (c : Thread nD τ) tmpM fullShare (pc m ρ c ⟨3 - s.val, by omega⟩) := dif_pos s.isLt
  have hpos : ∀ p ∈ l, 0 < lvl p.1 := fun p hp => lt_of_le_of_lt (Nat.zero_le _) (hlv p hp)
  unfold srcP tmpAny
  iintro ⟨#HR, HO, HrS, HrR, ⟨%q, Hsrc⟩, HcT, Hcp, Htmp⟩ Hk
  iapply (step_copy m ρ K s.val (pM (blk c ⟨3 - s.val, by omega⟩)) hs tmpM rfl (by omega) hC (q := q) (by rw [hcp]; iintro ⟨H, -⟩; iexact H)) $$ [Hsrc Htmp HcT Hcp]
  · isplitr; · iexact HR
    isplitl [Hsrc]; · iexact Hsrc
    isplitl [Htmp]; · iexact Htmp
    isplitl [HcT]; · iexact HcT
    iexact Hcp
  iintro Hcp
  iapply (step_wait1 m ρ K (.rsS s) l hpos rfl rfl rfl hS) $$ [HrS HO]
  · isplitr; · iexact HR
    isplitl [HrS]; · iexact HrS
    iexact HO
  iintro ⟨HO, HzS, HpS⟩
  iapply (step_wait1 m ρ K (.rsR s) l hlv rfl rfl rfl hR) $$ [HrR HO]
  · isplitr; · iexact HR
    isplitl [HrR]; · iexact HrR
    iexact HO
  iintro ⟨HO, HzR, HpR⟩
  iapply (step_waitC m ρ K s.val (by omega) l hpos hC') $$ [Hcp HO]
  · isplitr; · iexact HR
    isplitl [Hcp]; · iexact Hcp
    iexact HO
  iintro ⟨HO, Hcp, Htmp⟩
  ihave Htmp := (Entails.of_eq hcp) $$ Htmp
  ihave HpR := (show pay m ρ c (.rsR s) 0 0 ⊢ owns (c : Thread nD τ) (slM s) fullShare (acc m ρ s.val (lf c)) from .rfl) $$ HpR
  iapply Hk
  isplitl [HO]; · iexact HO
  isplitl [HzS]; · iexact HzS
  isplitl [HzR]; · iexact HzR
  isplitl [HpS]; · iexact HpS
  isplitl [HpR]; · iexact HpR
  isplitl [Hcp]; · iexact Hcp
  iexact Htmp

section Parts

variable {h0 : (Memref.whole main_arg0 : Memref sig .tc .hbm S1x4096x4096 .f32).IsWhole} {h1 : (Memref.whole main_arg1 : Memref sig .tc .hbm S4096x4096 .f32).IsWhole}
  {h2 : (Memref.whole cc0_stg0_0 : Memref sig .tc .vmem S4096 .f32).IsWhole} {h3 : (Memref.whole main_v1 : Memref sig .tc .hbm S4096x4096 .f32).IsWhole}
  {h4 : (Memref.whole cc0_scratch0 : Memref sig .tc .vmem S3x512x4096 .f32).IsWhole} {h5 : (Memref.whole cc0_scratch1 : Memref sig .tc .vmem S512x4096 .f32).IsWhole}
  {h6 : (Memref.whole cc0_scratch2 : Memref sig .tc .vmem S512x4096 .f32).IsWhole} {c : Dev nD}

/-- The barrier, and the first transfer of the reduction. -/
theorem part2_wp (v5 v8 c2 v27 v32 v34 : BitVec 32) (v35 : BitVec 1) {Q : _ → sProp 𝕄} :
    iprop(recs m ρ K ∗ OW c du0 ∗ dutyTok (ER (F := F)) (cell (lf c) .bar) 0 1 ∗ dutyTok (ER (F := F)) (cell (rt c) .bar) 0 0 ∗ dutyTok (ER (F := F)) (cell (pt c) .bar) 0 2
        ∗ cred (tallyAt (cell c .bar) () 3) ∗ atPos (ER (F := F)) (cell c .bar) 0 ∅ 0
        ∗ (bigSep Finset.univ fun s : Fin 3 => slAny (F := F) c s) ∗ (bigSep Finset.univ fun s : Fin 3 => oAny (F := F) c (blk c (zxk s.succ)))
        ∗ (bigSep Finset.univ fun j : Fin 4 => oAny (F := F) c (blk (pt c) (zxk j))) ∗ srcP m ρ c 0 ∗ sT (F := F) c (.rsS 0) ∗ pT (F := F) c (.rsR 0))
      ⊢ iprop((∀ r, (OW c du4 ∗ Z (F := F) c .bar ∗ slAny (F := F) (rt c) 1 ∗ slAny (F := F) (rt c) 2
            ∗ (bigSep Finset.univ fun s : Fin 3 => oAny (F := F) (rt c) (blk c (agk s))) ∗ (bigSep Finset.univ fun j : Fin 4 => oAny (F := F) (pt c) (blk c (zxk j)))
            ∗ rT (F := F) c (.rsS 0)) -∗ Q r)
        -∗ wpc c (k0_part2 (F := F) (Memref.whole main_arg0) h0 (Memref.whole main_arg1) h1 (Memref.whole cc0_stg0_0) h2 (Memref.whole main_v1) h3 (Memref.whole cc0_scratch0) h4
          (Memref.whole cc0_scratch1) h5 (Memref.whole cc0_scratch2) h6 cc0_scratch3 cc0_scratch4 cc0_scratch5 cc0_scratch6 cc0_scratch7 cc0_scratch8 cc0_scratch9 c v5 v8 c2 v27 v32 v34 v35) Q) := by
  rw [k0_part2_eq_skeleton]; unfold k0_part2_skel
  simp only [semSignalWord, semWaitWord, Prog.lift, Prog.bind_op, Prog.bind_ret, Prog.pure_eq_ret]
  unfold srcP
  iintro ⟨#HR, HO, Ht1, Ht0, Ht2, Hcr, Hat, Hsl, Hol, Hop, ⟨%q, Hsrc⟩, HsT, HpT⟩ Hk
  iapply (step_signal m ρ K 1 (lf c) (dev1_eq c) rfl (by decide) du1) $$ [HO Ht1 Hsl Hol]
  · isplitr; · iexact HR
    isplitl [HO]; · iexact HO
    isplitl [Ht1]; · iexact Ht1
    iapply (bar_lf m ρ c); isplitl [Hsl] <;> iassumption
  iintro HO
  iapply (step_signal m ρ K 0 (rt c) (dev2_eq c) rfl (by decide) du2) $$ [HO Ht0]
  · isplitr; · iexact HR
    isplitl [HO]; · iexact HO
    isplitl [Ht0]; · iexact Ht0
    iapply (show iprop(emp) ⊢ pay m ρ (rt c) .bar 0 0 from .rfl); iempintro
  iintro HO
  iapply (step_signal m ρ K 2 (pt c) (dev3_eq c) rfl (by decide) du3) $$ [HO Ht2 Hop]
  · isplitr; · iexact HR
    isplitl [HO]; · iexact HO
    isplitl [Ht2]; · iexact Ht2
    iapply (bar_pt m ρ c); iexact Hop
  iintro HO
  iapply (step_waitB m ρ K du3 (by decide) (by decide)) $$ [HO Hcr Hat]
  · isplitr; · iexact HR
    isplitl [Hcr]; · iexact Hcr
    isplitl [HO] <;> iassumption
  iintro ⟨HO, HZ, Hp1, Hp2⟩
  ihave Hp1 := (show pay m ρ c .bar 0 1 ⊢ iprop((bigSep Finset.univ fun s : Fin 3 => slAny (F := F) (rt c) s) ∗ bigSep Finset.univ fun s : Fin 3 => oAny (F := F) (rt c) (blk c (agk s))) from .rfl) $$ Hp1
  icases Hp1 with ⟨Hsl, Hol⟩
  ihave Hsl := (Entails.of_eq (bigSep_three (fun s : Fin 3 => slAny (F := F) (rt c) s))) $$ Hsl
  icases Hsl with ⟨Hs0, Hs1, Hs2⟩
  iapply (send_rs m ρ K du4 0 (dev4_eq c) (pM (blk c 0)) (pM_of _ (off1_eq c)) rfl (q := q) (by show _ ⊢ iprop(emp); iintro -; iempintro) rfl rfl) $$ [HO Hsrc Hs0 HsT HpT]
  · isplitr; · iexact HR
    isplitl [HO]; · iexact HO
    isplitl [Hsrc]; · iexact Hsrc
    isplitl [Hs0]; · iexact Hs0
    isplitl [HsT]; · iexact HsT
    iexact HpT
  iintro ⟨Hr, HO⟩
  iapply (wpc_ret c)
  iapply Hk
  isplitl [HO]; · iexact HO
  isplitl [HZ]; · iexact HZ
  isplitl [Hs1]; · iexact Hs1
  isplitl [Hs2]; · iexact Hs2
  isplitl [Hol]; · iexact Hol
  isplitl [Hp2]; · iapply (show pay m ρ c .bar 0 2 ⊢ (bigSep Finset.univ fun j : Fin 4 => oAny (F := F) (pt c) (blk c (zxk j))) from .rfl); iexact Hp2
  iexact Hr

/-- Round 0 of the reduction. -/
theorem part3_wp (v5 v44 v54 c512 : BitVec 32) {Q : _ → sProp 𝕄} :
    iprop(recs m ρ K ∗ OW c du4 ∗ rT (F := F) c (.rsS 0) ∗ rT (F := F) c (.rsR 0) ∗ srcP m ρ c 3 ∗ cT (F := F) c 0 ∗ cpT (F := F) c 0 ∗ tmpAny (F := F) c ∗ accAny (F := F) c)
      ⊢ iprop((∀ r, (OW c du4 ∗ Z (F := F) c (.rsS 0) ∗ Z (F := F) c (.rsR 0) ∗ slAny (F := F) c 0 ∗ cpT (F := F) c 1 ∗ tmpAny (F := F) c ∗ owns (c : Thread nD τ) accM fullShare (acc m ρ 1 c)) -∗ Q r)
        -∗ wpc c (k0_part3 (F := F) (Memref.whole main_arg0) h0 (Memref.whole main_arg1) h1 (Memref.whole cc0_stg0_0) h2 (Memref.whole main_v1) h3 (Memref.whole cc0_scratch0) h4
          (Memref.whole cc0_scratch1) h5 (Memref.whole cc0_scratch2) h6 cc0_scratch3 cc0_scratch4 cc0_scratch5 cc0_scratch6 cc0_scratch7 cc0_scratch8 cc0_scratch9 c v5 v44 v54 c512) Q) := by
  rw [k0_part3_eq_skeleton]; unfold k0_part3_skel
  simp only [semSignalWord, semWaitWord, Prog.lift, Prog.bind_op, Prog.bind_ret, Prog.pure_eq_ret]
  iintro ⟨#HR, HO, HrS, HrR, Hsrc, HcT, Hcp, Htmp, Hacc⟩ Hk
  iapply (round_waits m ρ K 0 du4 (by decide) (pM_of _ (off2_eq c 0)) rfl rfl rfl rfl) $$ [HO HrS HrR Hsrc HcT Hcp Htmp]
  · isplitr; · iexact HR
    isplitl [HO]; · iexact HO
    isplitl [HrS]; · iexact HrS
    isplitl [HrR]; · iexact HrR
    isplitl [Hsrc]; · iexact Hsrc
    isplitl [HcT]; · iexact HcT
    isplitl [Hcp]; · iexact Hcp
    iexact Htmp
  iintro ⟨HO, HzS, HzR, -, Hsl, Hcp, Htmp⟩
  iapply (step_load_slot 0 rfl) $$ Hsl
  iintro %v ⟨%hv, Hsl⟩
  iapply (step_load tmpM rd_tmp) $$ Htmp
  iintro Htmp
  unfold accAny
  icases Hacc with ⟨%Xa, Hacc⟩
  iapply (step_load accM rd_acc) $$ Hacc
  iintro Hacc
  iapply (step_store accM (Y := acc m ρ 1 c) fun f => (wr_acc _ f).trans (pay1_eq hv)) $$ [Hacc]
  · iexists Xa; iexact Hacc
  iintro Hacc
  iapply (wpc_ret c)
  iapply Hk
  isplitl [HO]; · iexact HO
  isplitl [HzS]; · iexact HzS
  isplitl [HzR]; · iexact HzR
  isplitl [Hsl]; · unfold slAny; iexists _; iexact Hsl
  isplitl [Hcp]; · iexact Hcp
  isplitl [Htmp]; · unfold tmpAny; iexists _; iexact Htmp
  iexact Hacc

/-- Round 1 of the reduction, up to its sum. -/
theorem part4_wp (v44 v91 : BitVec 32) {Q : _ → sProp 𝕄} :
    iprop(recs m ρ K ∗ OW c du4 ∗ owns (c : Thread nD τ) accM fullShare (acc m ρ 1 c) ∗ slAny (F := F) (rt c) 1 ∗ sT (F := F) c (.rsS 1) ∗ pT (F := F) c (.rsR 1) ∗ rT (F := F) c (.rsR 1) ∗ srcP m ρ c 2 ∗ cT (F := F) c 1 ∗ cpT (F := F) c 1 ∗ tmpAny (F := F) c)
      ⊢ iprop((∀ r, (⌜r = acc m ρ 2 c⌝ ∗ OW c du5 ∗ Z (F := F) c (.rsS 1) ∗ Z (F := F) c (.rsR 1) ∗ accAny (F := F) c ∗ slAny (F := F) c 1 ∗ cpT (F := F) c 2 ∗ tmpAny (F := F) c) -∗ Q r)
        -∗ wpc c (k0_part4 (F := F) (Memref.whole main_arg0) h0 (Memref.whole main_arg1) h1 (Memref.whole cc0_stg0_0) h2 (Memref.whole main_v1) h3 (Memref.whole cc0_scratch0) h4
          (Memref.whole cc0_scratch1) h5 (Memref.whole cc0_scratch2) h6 cc0_scratch3 cc0_scratch4 cc0_scratch5 cc0_scratch6 cc0_scratch7 cc0_scratch8 cc0_scratch9 c v44 v91) Q) := by
  rw [k0_part4_eq_skeleton]; unfold k0_part4_skel
  simp only [semSignalWord, semWaitWord, Prog.lift, Prog.bind_op, Prog.bind_ret, Prog.pure_eq_ret]
  iintro ⟨#HR, HO, Hacc, Hsn, HsT, HpT, HrR, Hsrc, HcT, Hcp, Htmp⟩ Hk
  iapply (send_rs m ρ K du5 1 (dev5_eq c) accM rfl rfl (q := fullShare) (by show _ ⊢ accAny c; unfold accAny; iintro H; iexists _; iexact H) rfl rfl) $$ [HO Hacc Hsn HsT HpT]
  · isplitr; · iexact HR
    isplitl [HO]; · iexact HO
    isplitl [Hacc]; · iexact Hacc
    isplitl [Hsn]; · iexact Hsn
    isplitl [HsT]; · iexact HsT
    iexact HpT
  iintro ⟨HrS, HO⟩
  iapply (round_waits m ρ K 1 du5 (by decide) (pM_of _ (off2_eq c 1)) rfl rfl rfl rfl) $$ [HO HrS HrR Hsrc HcT Hcp Htmp]
  · isplitr; · iexact HR
    isplitl [HO]; · iexact HO
    isplitl [HrS]; · iexact HrS
    isplitl [HrR]; · iexact HrR
    isplitl [Hsrc]; · iexact Hsrc
    isplitl [HcT]; · iexact HcT
    isplitl [Hcp]; · iexact Hcp
    iexact Htmp
  iintro ⟨HO, HzS, HzR, Hacc, Hsl, Hcp, Htmp⟩
  iapply (step_load_slot 1 rfl) $$ Hsl
  iintro %v ⟨%hv, Hsl⟩
  iapply (step_load tmpM rd_tmp) $$ Htmp
  iintro Htmp
  iapply (wpc_ret c)
  iapply Hk
  isplitr; · ipureintro; exact pay2_eq hv
  isplitl [HO]; · iexact HO
  isplitl [HzS]; · iexact HzS
  isplitl [HzR]; · iexact HzR
  isplitl [Hacc]; · iapply (show pay m ρ c (.rsS 1) 0 0 ⊢ accAny c from .rfl); iexact Hacc
  isplitl [Hsl]; · unfold slAny; iexists _; iexact Hsl
  isplitl [Hcp]; · iexact Hcp
  unfold tmpAny; iexists _; iexact Htmp

/-- Round 2 of the reduction, up to its waits. -/
theorem part5_wp (v5 v44 : BitVec 32) {Q : _ → sProp 𝕄} :
    iprop(recs m ρ K ∗ OW c du5 ∗ accAny (F := F) c ∗ slAny (F := F) (rt c) 2 ∗ sT (F := F) c (.rsS 2) ∗ pT (F := F) c (.rsR 2) ∗ rT (F := F) c (.rsR 2) ∗ srcP m ρ c 1 ∗ cT (F := F) c 2 ∗ cpT (F := F) c 2 ∗ tmpAny (F := F) c)
      ⊢ iprop((∀ r, (OW c du6 ∗ Z (F := F) c (.rsS 2) ∗ Z (F := F) c (.rsR 2) ∗ accAny (F := F) c ∗ owns (c : Thread nD τ) (slM 2) fullShare (acc m ρ 2 (lf c)) ∗ cpT (F := F) c 3 ∗ owns (c : Thread nD τ) tmpM fullShare (pc m ρ c 1)) -∗ Q r)
        -∗ wpc c (k0_part5 (F := F) (Memref.whole main_arg0) h0 (Memref.whole main_arg1) h1 (Memref.whole cc0_stg0_0) h2 (Memref.whole main_v1) h3 (Memref.whole cc0_scratch0) h4
          (Memref.whole cc0_scratch1) h5 (Memref.whole cc0_scratch2) h6 cc0_scratch3 cc0_scratch4 cc0_scratch5 cc0_scratch6 cc0_scratch7 cc0_scratch8 cc0_scratch9 c v5 v44 (acc m ρ 2 c)) Q) := by
  rw [k0_part5_eq_skeleton]; unfold k0_part5_skel
  simp only [semSignalWord, semWaitWord, Prog.lift, Prog.bind_op, Prog.bind_ret, Prog.pure_eq_ret]
  iintro ⟨#HR, HO, Hacc, Hsn, HsT, HpT, HrR, Hsrc, HcT, Hcp, Htmp⟩ Hk
  unfold accAny
  icases Hacc with ⟨%Xa, Hacc⟩
  iapply (step_load accM rd_acc) $$ Hacc
  iintro Hacc
  iapply (step_store accM (Y := acc m ρ 2 c) fun f => (wr_acc _ f).trans (pay3_eq _)) $$ [Hacc]
  · iexists Xa; iexact Hacc
  iintro Hacc
  iapply (send_rs m ρ K du6 2 (dev6_eq c) accM rfl rfl (q := fullShare) (by show _ ⊢ accAny c; unfold accAny; iintro H; iexists _; iexact H) rfl rfl) $$ [HO Hacc Hsn HsT HpT]
  · isplitr; · iexact HR
    isplitl [HO]; · iexact HO
    isplitl [Hacc]; · iexact Hacc
    isplitl [Hsn]; · iexact Hsn
    isplitl [HsT]; · iexact HsT
    iexact HpT
  iintro ⟨HrS, HO⟩
  iapply (round_waits m ρ K 2 du6 (by decide) (pM_of _ (off2_eq c 2)) rfl rfl rfl rfl) $$ [HO HrS HrR Hsrc HcT Hcp Htmp]
  · isplitr; · iexact HR
    isplitl [HO]; · iexact HO
    isplitl [HrS]; · iexact HrS
    isplitl [HrR]; · iexact HrR
    isplitl [Hsrc]; · iexact Hsrc
    isplitl [HcT]; · iexact HcT
    isplitl [Hcp]; · iexact Hcp
    iexact Htmp
  iintro ⟨HO, HzS, HzR, Hacc, Hsl, Hcp, Htmp⟩
  ihave Hacc := (show pay m ρ c (.rsS 2) 0 0 ⊢ iprop(∃ X, owns (c : Thread nD τ) accM fullShare X) from .rfl) $$ Hacc
  iapply (wpc_ret c)
  iapply Hk
  isplitl [HO]; · iexact HO
  isplitl [HzS]; · iexact HzS
  isplitl [HzR]; · iexact HzR
  isplitl [Hacc]; · iexact Hacc
  isplitl [Hsl]; · iexact Hsl
  isplitl [Hcp]; · iexact Hcp
  iexact Htmp

/-- The last sum of the reduction, the residual and the normalisation. -/
theorem part6_wp (v5 v44 : BitVec 32) {q : PosShare TreeShare} {Q : _ → sProp 𝕄} :
    iprop(recs m ρ K ∗ OW c du6 ∗ owns (c : Thread nD τ) (slM 2) fullShare (acc m ρ 2 (lf c)) ∗ owns (c : Thread nD τ) tmpM fullShare (pc m ρ c 1) ∗ accAny (F := F) c ∗ srcR m ρ c ∗ cT (F := F) c 3 ∗ cpT (F := F) c 3 ∗ owns (c : Thread nD τ) gamM q (gm m ρ c))
      ⊢ iprop((∀ r, (OW c du6 ∗ slAny (F := F) c 2 ∗ tmpAny (F := F) c ∗ owns (c : Thread nD τ) accM fullShare (nb m ρ c) ∗ cpT (F := F) c 4 ∗ owns (c : Thread nD τ) gamM q (gm m ρ c)) -∗ Q r)
        -∗ wpc c (k0_part6 (F := F) (Memref.whole main_arg0) h0 (Memref.whole main_arg1) h1 (Memref.whole cc0_stg0_0) h2 (Memref.whole main_v1) h3 (Memref.whole cc0_scratch0) h4
          (Memref.whole cc0_scratch1) h5 (Memref.whole cc0_scratch2) h6 cc0_scratch3 cc0_scratch4 cc0_scratch5 cc0_scratch6 cc0_scratch7 cc0_scratch8 cc0_scratch9 c v5 v44) Q) := by
  rw [k0_part6_eq_skeleton]; unfold k0_part6_skel
  simp only [semSignalWord, semWaitWord, Prog.lift, Prog.bind_op, Prog.bind_ret, Prog.pure_eq_ret]
  unfold srcR accAny
  iintro ⟨#HR, HO, Hsl, Htmp, ⟨%Xa, Hacc⟩, ⟨%qr, Hsrc⟩, HcT, Hcp, Hg⟩ Hk
  iapply (step_load_slot 2 rfl) $$ Hsl
  iintro %v ⟨%hv, Hsl⟩
  iapply (step_load tmpM rd_tmp) $$ Htmp
  iintro Htmp
  iapply (step_load accM rd_acc) $$ Hacc
  iintro Hacc
  iapply (step_store accM (Y := acc m ρ 3 c) fun f => (wr_acc _ f).trans (pay4_eq hv)) $$ [Hacc]
  · iexists Xa; iexact Hacc
  iintro Hacc
  iapply (step_copy m ρ K 3 (rM (blk c 1)) (rM_of _ (off3_eq c)) tmpM rfl (by omega) rfl (q := qr) (by
      show _ ⊢ owns (c : Thread nD τ) tmpM fullShare (rc m ρ c); iintro ⟨H, -⟩; iexact H)) $$ [Hsrc Htmp HcT Hcp]
  · isplitr; · iexact HR
    isplitl [Hsrc]; · iexact Hsrc
    isplitl [Htmp]; · iexists _; iexact Htmp
    isplitl [HcT]; · iexact HcT
    iexact Hcp
  iintro Hcp
  iapply (step_waitC m ρ K 3 (by omega) du6 (by decide) rfl) $$ [Hcp HO]
  · isplitr; · iexact HR
    isplitl [Hcp]; · iexact Hcp
    iexact HO
  iintro ⟨HO, Hcp, Htmp⟩
  ihave Htmp := (show pay m ρ c .cp 3 0 ⊢ owns (c : Thread nD τ) tmpM fullShare (rc m ρ c) from .rfl) $$ Htmp
  iapply (step_load accM rd_acc) $$ Hacc
  iintro Hacc
  iapply (step_load tmpM rd_tmp) $$ Htmp
  iintro Htmp
  iapply (step_load gamM rd_gam) $$ Hg
  iintro Hg
  iapply (step_load accM rd_acc) $$ Hacc
  iintro Hacc
  iapply (step_store accM (Y := nb m ρ c) fun f => wr_acc _ f) $$ [Hacc]
  · iexists _; iexact Hacc
  iintro Hacc
  iapply (wpc_ret c)
  iapply Hk
  isplitl [HO]; · iexact HO
  isplitl [Hsl]; · unfold slAny; iexists _; iexact Hsl
  isplitl [Htmp]; · unfold tmpAny; iexists _; iexact Htmp
  isplitl [Hacc]; · iexact Hacc
  isplitl [Hcp]; · iexact Hcp
  iexact Hg

end Parts

end Cert.Fused

end
-- ==== Proof.Body2.lean ====
/- The body's rounds of the gather and the exchanges with the partner, up to the last waits. -/
module

public import proofs.«01_k».proof.Proof.Moves

@[expose] public section

set_option maxRecDepth 16384

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Kd → ℕ)

/-- A finished block is split into two halves, one to send along the ring and one to send to the partner. -/
theorem oFin_halves (c : Dev nD) (b : Fin 8) : oFin m ρ c b fullShare ⊢ iprop(oFin m ρ c b fullShare.left ∗ oFin m ρ c b fullShare.right) :=
  (owns_halves _ _ _ _).1

/-- What a finished copy to the result hands back. -/
theorem pay_cp4 (c : Dev nD) : iprop(owns (c : Thread nD τ) (oM (blk c 1)) fullShare (nb m ρ c) ∗ owns (c : Thread nD τ) accM fullShare (nb m ρ c)) ⊢ pay m ρ c .cp 4 0 := by
  show _ ⊢ iprop(owns (c : Thread nD τ) (oM (blk c 1)) fullShare (nb m ρ (ow c (blk c 1))) ∗ accAny c)
  rw [ow_own]
  unfold accAny
  iintro ⟨Ho, Ha⟩
  isplitl [Ho]; · iexact Ho
  iexists _; iexact Ha

/-- The waits of round `s` of the gather and the exchange that follows: the landed block goes to the partner, and its other
    half is kept for the ring. -/
theorem gather_round {c n : Dev nD} (s : Fin 3) (l : List (Kd × Fin 3)) (hlv : ∀ p ∈ (.zxR s.succ, 0) :: l, lvl (.agR s) < lvl p.1)
    {sS sR tS tR : DmaSem sig} (hS : csem (.agS s) = .dma sS) (hR : csem (.agR s) = .dma sR)
    (h1 : csem (.zxS s.succ) = .dma tS) (h2 : csem (.zxR s.succ) = .dma tR)
    {sp1 sp2 sp3 sp4 : Space} {t1 t2 : Shape}
    {a1 : Memref sig .tc sp1 t1 .f32} {b1 : Memref sig .tc sp2 S512x4096 .f32} {x1 : a1.view.WordExact} {y1 : b1.view.WordExact}
    {a2 : Memref sig .tc sp3 t2 .f32} {b2 : Memref sig .tc sp4 S512x4096 .f32} {x2 : a2.view.WordExact} {y2 : b2.view.WordExact}
    {src : Memref sig .tc .hbm S512x4096 .f32} {dst : Memref sig (Dev.tc n : Thread nD τ).2.kind .hbm S512x4096 .f32}
    (hn : n = pt c) (hs : src = oM (blk c (zxk s.succ))) (hd : dst = oM (blk c (zxk s.succ)))
    {hsc : dst.view.ref.isScScratch = false} {hsrc : src.view.WordExact} {hdst : dst.view.WordExact}
    {hsem : DmaTarget.Typed .hbm (.dma tR) (.remote (Dev.tc n : Thread nD τ) dst (.dma tS) hsc)}
    {α : Type} {Q : α → sProp 𝕄} {k : PUnit → Prog (TpuEff nD τ sig (Elt F) Λ₀ .tc) α} :
    iprop(recs m ρ K ∗ OW c ((.zxR s.succ, 0) :: l) ∗ rT c (.agS s) ∗ rT c (.agR s) ∗ oAny (pt c) (blk c (zxk s.succ)) ∗ sT c (.zxS s.succ) ∗ pT c (.zxR s.succ))
      ⊢ iprop(((OW c l ∗ Z c (.agS s) ∗ Z c (.agR s) ∗ oFin m ρ c (blk c (zxk s.succ)) fullShare.right ∗ rT c (.zxS s.succ)) -∗ wpc c (k ⟨⟩) Q)
          -∗ wpc c (.op (.waitDma2 sS a1 b1 x1 y1) fun _ => .op (.waitDma2 sR a2 b2 x2 y2) fun _ =>
              .op (.enqueueDma src (.remote (Dev.tc n : Thread nD τ) dst (.dma tS) hsc) (.dma tR) hsrc hdst hsem) k) Q) := by
  iintro ⟨#HR, HO, HrS, HrR, Hon, HsT, HpT⟩ Hk
  iapply (step_wait1 m ρ K (.agS s) _ (fun p hp => lt_of_le_of_lt (Nat.zero_le _) (hlv p hp)) rfl rfl rfl hS) $$ [HrS HO]
  · isplitr; · iexact HR
    isplitl [HrS]; · iexact HrS
    iexact HO
  iintro ⟨HO, HzS, -⟩
  iapply (step_wait1 m ρ K (.agR s) _ hlv rfl rfl rfl hR) $$ [HrR HO]
  · isplitr; · iexact HR
    isplitl [HrR]; · iexact HrR
    iexact HO
  iintro ⟨HO, HzR, Hp⟩
  ihave Hp := (show pay m ρ c (.agR s) 0 0 ⊢ oFin m ρ c (blk c (zxk s.succ)) fullShare from .rfl) $$ Hp
  ihave Hp := (oFin_halves m ρ c _) $$ Hp
  icases Hp with ⟨Hl, Hr⟩
  iapply (send_zx m ρ K l s.succ hn hs hd h1 h2) $$ [HO Hl Hon HsT HpT]
  · isplitr; · iexact HR
    isplitl [HO]; · iexact HO
    isplitl [Hl]; · iexact Hl
    isplitl [Hon]; · iexact Hon
    isplitl [HsT]; · iexact HsT
    iexact HpT
  iintro ⟨Hz, HO⟩
  iapply Hk
  isplitl [HO]; · iexact HO
  isplitl [HzS]; · iexact HzS
  isplitl [HzR]; · iexact HzR
  isplitl [Hr]; · iexact Hr
  iexact Hz

section Parts

variable {h0 : (Memref.whole main_arg0 : Memref sig .tc .hbm S1x4096x4096 .f32).IsWhole} {h1 : (Memref.whole main_arg1 : Memref sig .tc .hbm S4096x4096 .f32).IsWhole}
  {h2 : (Memref.whole cc0_stg0_0 : Memref sig .tc .vmem S4096 .f32).IsWhole} {h3 : (Memref.whole main_v1 : Memref sig .tc .hbm S4096x4096 .f32).IsWhole}
  {h4 : (Memref.whole cc0_scratch0 : Memref sig .tc .vmem S3x512x4096 .f32).IsWhole} {h5 : (Memref.whole cc0_scratch1 : Memref sig .tc .vmem S512x4096 .f32).IsWhole}
  {h6 : (Memref.whole cc0_scratch2 : Memref sig .tc .vmem S512x4096 .f32).IsWhole} {c : Dev nD}

/-- The copy of the finished block to the result, and the first two transfers of the gather. -/
theorem part7_wp (v5 v44 v153 c512 : BitVec 32) {Q : _ → sProp 𝕄} :
    iprop(recs m ρ K ∗ OW c du6 ∗ owns (c : Thread nD τ) accM fullShare (nb m ρ c) ∗ oAny (F := F) c (blk c 1) ∗ cT (F := F) c 4 ∗ cpT (F := F) c 4 ∗ oAny (F := F) (pt c) (blk c (zxk 0)) ∗ sT (F := F) c (.zxS 0) ∗ pT (F := F) c (.zxR 0) ∗ oAny (F := F) (rt c) (blk c (agk 0)) ∗ sT (F := F) c (.agS 0) ∗ pT (F := F) c (.agR 0))
      ⊢ iprop((∀ r, (OW c du8 ∗ accAny (F := F) c ∗ Z (F := F) c .cp ∗ rT (F := F) c (.zxS 0) ∗ rT (F := F) c (.agS 0)) -∗ Q r)
        -∗ wpc c (k0_part7 (F := F) (Memref.whole main_arg0) h0 (Memref.whole main_arg1) h1 (Memref.whole cc0_stg0_0) h2 (Memref.whole main_v1) h3 (Memref.whole cc0_scratch0) h4
          (Memref.whole cc0_scratch1) h5 (Memref.whole cc0_scratch2) h6 cc0_scratch3 cc0_scratch4 cc0_scratch5 cc0_scratch6 cc0_scratch7 cc0_scratch8 cc0_scratch9 c v5 v44 v153 c512) Q) := by
  rw [k0_part7_eq_skeleton]; unfold k0_part7_skel
  simp only [semSignalWord, semWaitWord, Prog.lift, Prog.bind_op, Prog.bind_ret, Prog.pure_eq_ret]
  have hz := close_cell m ρ K c .cp
  rw [show nR .cp = 4 + 1 from rfl, show semVal (cell c .cp) 0 = Z (F := F) c .cp from rfl] at hz
  iintro ⟨#HR, HO, Hacc, Ho, HcT, Hcp, Hop, HsZ, HpZ, Hor, HsA, HpA⟩ Hk
  ihave Ho := (show oAny (F := F) c (blk c 1) ⊢ iprop(∃ X, owns (c : Thread nD τ) (oM (blk c 1)) fullShare X) from .rfl) $$ Ho
  iapply (step_copy m ρ K 4 accM rfl (oM (blk c 1)) (oM_of _ (off3_eq c)) (by omega) rfl (q := fullShare) (pay_cp4 m ρ c)) $$ [Hacc Ho HcT Hcp]
  · isplitr; · iexact HR
    isplitl [Hacc]; · iexact Hacc
    isplitl [Ho]; · iexact Ho
    isplitl [HcT]; · iexact HcT
    iexact Hcp
  iintro Hcp
  iapply (step_waitC m ρ K 4 (by omega) du6 (by decide) rfl) $$ [Hcp HO]
  · isplitr; · iexact HR
    isplitl [Hcp]; · iexact Hcp
    iexact HO
  iintro ⟨HO, Hcp, Hp⟩
  ihave Hp := (show pay m ρ c .cp 4 0 ⊢ iprop(oFin m ρ c (blk c 1) fullShare ∗ accAny c) from .rfl) $$ Hp
  icases Hp with ⟨Ho, Hacc⟩
  ihave Ho := (oFin_halves m ρ c _) $$ Ho
  icases Ho with ⟨Hl, Hr⟩
  ihave Hcp := (show cpT (F := F) c (4 + 1) ⊢ iprop(atPos (ER (F := F)) (cell c .cp) (4 + 1) ∅ 0 ∗ reached ER (cell c .cp) (4 + 1)) from .rfl) $$ Hcp
  icases Hcp with ⟨Hat, -⟩
  unfold wpc
  imod hz $$ [Hat] with Hz
  · isplitr; · iexact HR
    iexact Hat
  iapply (send_zx m ρ K du7 0 (dev7_eq c) (oM_of _ (off3_eq c)) (oM_of _ (off3_eq c)) rfl rfl) $$ [HO Hl Hop HsZ HpZ]
  · isplitr; · iexact HR
    isplitl [HO]; · iexact HO
    isplitl [Hl]; · iexact Hl
    isplitl [Hop]; · iexact Hop
    isplitl [HsZ]; · iexact HsZ
    iexact HpZ
  iintro ⟨HrZ, HO⟩
  iapply (send_ag m ρ K du8 0 (dev8_eq c) (oM_of _ (off4_eq c 0)) (oM_of _ (off4_eq c 0)) rfl rfl) $$ [HO Hr Hor HsA HpA]
  · isplitr; · iexact HR
    isplitl [HO]; · iexact HO
    isplitl [Hr]; · iexact Hr
    isplitl [Hor]; · iexact Hor
    isplitl [HsA]; · iexact HsA
    iexact HpA
  iintro ⟨HrA, HO⟩
  iapply (wpc_ret c)
  iapply Hk
  isplitl [HO]; · iexact HO
  isplitl [Hacc]; · iexact Hacc
  isplitl [Hz]; · iexact Hz
  isplitl [HrZ]; · iexact HrZ
  iexact HrA

/-- Round 0 of the gather, and the second exchange. -/
theorem part8_wp (v5 v44 : BitVec 32) {Q : _ → sProp 𝕄} :
    iprop(recs m ρ K ∗ OW c du8 ∗ rT (F := F) c (.agS 0) ∗ rT (F := F) c (.agR 0) ∗ oAny (F := F) (pt c) (blk c (zxk 1)) ∗ sT (F := F) c (.zxS 1) ∗ pT (F := F) c (.zxR 1))
      ⊢ iprop((∀ r, (OW c du9 ∗ Z (F := F) c (.agS 0) ∗ Z (F := F) c (.agR 0) ∗ oFin m ρ c (blk c (zxk 1)) fullShare.right ∗ rT (F := F) c (.zxS 1)) -∗ Q r)
        -∗ wpc c (k0_part8 (F := F) (Memref.whole main_arg0) h0 (Memref.whole main_arg1) h1 (Memref.whole cc0_stg0_0) h2 (Memref.whole main_v1) h3 (Memref.whole cc0_scratch0) h4
          (Memref.whole cc0_scratch1) h5 (Memref.whole cc0_scratch2) h6 cc0_scratch3 cc0_scratch4 cc0_scratch5 cc0_scratch6 cc0_scratch7 cc0_scratch8 cc0_scratch9 c v5 v44) Q) := by
  rw [k0_part8_eq_skeleton]; unfold k0_part8_skel
  simp only [semSignalWord, semWaitWord, Prog.lift, Prog.bind_op, Prog.bind_ret, Prog.pure_eq_ret]
  iintro ⟨#HR, HO, HrS, HrR, Hop, HsZ, HpZ⟩ Hk
  iapply (gather_round m ρ K 0 du9 (by decide) rfl rfl rfl rfl (dev9_eq c) (oM_of _ (off5_eq c 0)) (oM_of _ (off5_eq c 0))) $$ [HO HrS HrR Hop HsZ HpZ]
  · isplitr; · iexact HR
    isplitl [HO]; · iexact HO
    isplitl [HrS]; · iexact HrS
    isplitl [HrR]; · iexact HrR
    isplitl [Hop]; · iexact Hop
    isplitl [HsZ]; · iexact HsZ
    iexact HpZ
  iintro ⟨HO, HzS, HzR, Hr, HrZ⟩
  iapply (wpc_ret c)
  iapply Hk
  isplitl [HO]; · iexact HO
  isplitl [HzS]; · iexact HzS
  isplitl [HzR]; · iexact HzR
  isplitl [Hr]; · iexact Hr
  iexact HrZ

/-- Round 1 of the gather, and exchange 2. -/
theorem part9_wp (v5 v44 : BitVec 32) {Q : _ → sProp 𝕄} :
    iprop(recs m ρ K ∗ OW c du9 ∗ oFin m ρ c (blk c (agk 1)) fullShare.right ∗ oAny (F := F) (rt c) (blk c (agk 1)) ∗ sT (F := F) c (.agS 1) ∗ pT (F := F) c (.agR 1) ∗ rT (F := F) c (.agR 1) ∗ oAny (F := F) (pt c) (blk c (zxk 2)) ∗ sT (F := F) c (.zxS 2) ∗ pT (F := F) c (.zxR 2))
      ⊢ iprop((∀ r, (OW c du11 ∗ Z (F := F) c (.agS 1) ∗ Z (F := F) c (.agR 1) ∗ oFin m ρ c (blk c (zxk 2)) fullShare.right ∗ rT (F := F) c (.zxS 2)) -∗ Q r)
        -∗ wpc c (k0_part9 (F := F) (Memref.whole main_arg0) h0 (Memref.whole main_arg1) h1 (Memref.whole cc0_stg0_0) h2 (Memref.whole main_v1) h3 (Memref.whole cc0_scratch0) h4
          (Memref.whole cc0_scratch1) h5 (Memref.whole cc0_scratch2) h6 cc0_scratch3 cc0_scratch4 cc0_scratch5 cc0_scratch6 cc0_scratch7 cc0_scratch8 cc0_scratch9 c v5 v44) Q) := by
  rw [k0_part9_eq_skeleton]; unfold k0_part9_skel
  simp only [semSignalWord, semWaitWord, Prog.lift, Prog.bind_op, Prog.bind_ret, Prog.pure_eq_ret]
  iintro ⟨#HR, HO, Hb, Hor, HsA, HpA, HrR, Hop, HsZ, HpZ⟩ Hk
  iapply (send_ag m ρ K du10 1 (dev10_eq c) (oM_of _ (off4_eq c 1)) (oM_of _ (off4_eq c 1)) rfl rfl) $$ [HO Hb Hor HsA HpA]
  · isplitr; · iexact HR
    isplitl [HO]; · iexact HO
    isplitl [Hb]; · iexact Hb
    isplitl [Hor]; · iexact Hor
    isplitl [HsA]; · iexact HsA
    iexact HpA
  iintro ⟨HrS, HO⟩
  iapply (gather_round m ρ K 1 du11 (by decide) rfl rfl rfl rfl (dev11_eq c) (oM_of _ (off5_eq c 1)) (oM_of _ (off5_eq c 1))) $$ [HO HrS HrR Hop HsZ HpZ]
  · isplitr; · iexact HR
    isplitl [HO]; · iexact HO
    isplitl [HrS]; · iexact HrS
    isplitl [HrR]; · iexact HrR
    isplitl [Hop]; · iexact Hop
    isplitl [HsZ]; · iexact HsZ
    iexact HpZ
  iintro ⟨HO, HzS, HzR, Hr, HrZ⟩
  iapply (wpc_ret c)
  iapply Hk
  isplitl [HO]; · iexact HO
  isplitl [HzS]; · iexact HzS
  isplitl [HzR]; · iexact HzR
  isplitl [Hr]; · iexact Hr
  iexact HrZ

/-- Round 2 of the gather, and exchange 3. -/
theorem part10_wp (v5 v44 : BitVec 32) {Q : _ → sProp 𝕄} :
    iprop(recs m ρ K ∗ OW c du11 ∗ oFin m ρ c (blk c (agk 2)) fullShare.right ∗ oAny (F := F) (rt c) (blk c (agk 2)) ∗ sT (F := F) c (.agS 2) ∗ pT (F := F) c (.agR 2) ∗ rT (F := F) c (.agR 2) ∗ oAny (F := F) (pt c) (blk c (zxk 3)) ∗ sT (F := F) c (.zxS 3) ∗ pT (F := F) c (.zxR 3))
      ⊢ iprop((∀ r, (OW c du13 ∗ Z (F := F) c (.agS 2) ∗ Z (F := F) c (.agR 2) ∗ oFin m ρ c (blk c (zxk 3)) fullShare.right ∗ rT (F := F) c (.zxS 3)) -∗ Q r)
        -∗ wpc c (k0_part10 (F := F) (Memref.whole main_arg0) h0 (Memref.whole main_arg1) h1 (Memref.whole cc0_stg0_0) h2 (Memref.whole main_v1) h3 (Memref.whole cc0_scratch0) h4
          (Memref.whole cc0_scratch1) h5 (Memref.whole cc0_scratch2) h6 cc0_scratch3 cc0_scratch4 cc0_scratch5 cc0_scratch6 cc0_scratch7 cc0_scratch8 cc0_scratch9 c v5 v44) Q) := by
  rw [k0_part10_eq_skeleton]; unfold k0_part10_skel
  simp only [semSignalWord, semWaitWord, Prog.lift, Prog.bind_op, Prog.bind_ret, Prog.pure_eq_ret]
  iintro ⟨#HR, HO, Hb, Hor, HsA, HpA, HrR, Hop, HsZ, HpZ⟩ Hk
  iapply (send_ag m ρ K du12 2 (dev12_eq c) (oM_of _ (off4_eq c 2)) (oM_of _ (off4_eq c 2)) rfl rfl) $$ [HO Hb Hor HsA HpA]
  · isplitr; · iexact HR
    isplitl [HO]; · iexact HO
    isplitl [Hb]; · iexact Hb
    isplitl [Hor]; · iexact Hor
    isplitl [HsA]; · iexact HsA
    iexact HpA
  iintro ⟨HrS, HO⟩
  iapply (gather_round m ρ K 2 du13 (by decide) rfl rfl rfl rfl (dev13_eq c) (oM_of _ (off5_eq c 2)) (oM_of _ (off5_eq c 2))) $$ [HO HrS HrR Hop HsZ HpZ]
  · isplitr; · iexact HR
    isplitl [HO]; · iexact HO
    isplitl [HrS]; · iexact HrS
    isplitl [HrR]; · iexact HrR
    isplitl [Hop]; · iexact Hop
    isplitl [HsZ]; · iexact HsZ
    iexact HpZ
  iintro ⟨HO, HzS, HzR, Hr, HrZ⟩
  iapply (wpc_ret c)
  iapply Hk
  isplitl [HO]; · iexact HO
  isplitl [HzS]; · iexact HzS
  isplitl [HzR]; · iexact HzR
  isplitl [Hr]; · iexact Hr
  iexact HrZ

/-- The first exchange's waits, and the second's on the sending side. -/
theorem part11_wp (v5 v44 v46 v301 : BitVec 32) {Q : _ → sProp 𝕄} :
    iprop(recs m ρ K ∗ OW c du13 ∗ rT (F := F) c (.zxS 0) ∗ rT (F := F) c (.zxR 0) ∗ rT (F := F) c (.zxS 1))
      ⊢ iprop((∀ r, (OW c du13 ∗ Z (F := F) c (.zxS 0) ∗ Z (F := F) c (.zxR 0) ∗ Z (F := F) c (.zxS 1) ∗ pay m ρ c (.zxS 0) 0 0 ∗ pay m ρ c (.zxR 0) 0 0 ∗ pay m ρ c (.zxS 1) 0 0) -∗ Q r)
        -∗ wpc c (k0_part11 (F := F) (Memref.whole main_arg0) h0 (Memref.whole main_arg1) h1 (Memref.whole cc0_stg0_0) h2 (Memref.whole main_v1) h3 (Memref.whole cc0_scratch0) h4
          (Memref.whole cc0_scratch1) h5 (Memref.whole cc0_scratch2) h6 cc0_scratch3 cc0_scratch4 cc0_scratch5 cc0_scratch6 cc0_scratch7 cc0_scratch8 cc0_scratch9 c v5 v44 v46 v301) Q) := by
  rw [k0_part11_eq_skeleton]; unfold k0_part11_skel
  simp only [semSignalWord, semWaitWord, Prog.lift, Prog.bind_op, Prog.bind_ret, Prog.pure_eq_ret]
  iintro ⟨#HR, HO, Hr0, Hr1, Hr2⟩ Hk
  iapply (step_wait1 m ρ K (.zxS 0) du13 (by decide) rfl rfl rfl rfl) $$ [Hr0 HO]
  · isplitr; · iexact HR
    isplitl [Hr0]; · iexact Hr0
    iexact HO
  iintro ⟨HO, Hz0, Hp0⟩
  iapply (step_wait1 m ρ K (.zxR 0) du13 (by decide) rfl rfl rfl rfl) $$ [Hr1 HO]
  · isplitr; · iexact HR
    isplitl [Hr1]; · iexact Hr1
    iexact HO
  iintro ⟨HO, Hz1, Hp1⟩
  iapply (step_wait1 m ρ K (.zxS 1) du13 (by decide) rfl rfl rfl rfl) $$ [Hr2 HO]
  · isplitr; · iexact HR
    isplitl [Hr2]; · iexact Hr2
    iexact HO
  iintro ⟨HO, Hz2, Hp2⟩
  iapply (wpc_ret c)
  iapply Hk
  isplitl [HO]; · iexact HO
  isplitl [Hz0]; · iexact Hz0
  isplitl [Hz1]; · iexact Hz1
  isplitl [Hz2]; · iexact Hz2
  isplitl [Hp0]; · iexact Hp0
  isplitl [Hp1]; · iexact Hp1
  iexact Hp2

/-- The waits up to the last exchange's. -/
theorem part12_wp (v5 v44 v46 : BitVec 32) {Q : _ → sProp 𝕄} :
    iprop(recs m ρ K ∗ OW c du13 ∗ rT (F := F) c (.zxR 1) ∗ rT (F := F) c (.zxS 2) ∗ rT (F := F) c (.zxR 2))
      ⊢ iprop((∀ r, (OW c du13 ∗ Z (F := F) c (.zxR 1) ∗ Z (F := F) c (.zxS 2) ∗ Z (F := F) c (.zxR 2) ∗ pay m ρ c (.zxR 1) 0 0 ∗ pay m ρ c (.zxS 2) 0 0 ∗ pay m ρ c (.zxR 2) 0 0) -∗ Q r)
        -∗ wpc c (k0_part12 (F := F) (Memref.whole main_arg0) h0 (Memref.whole main_arg1) h1 (Memref.whole cc0_stg0_0) h2 (Memref.whole main_v1) h3 (Memref.whole cc0_scratch0) h4
          (Memref.whole cc0_scratch1) h5 (Memref.whole cc0_scratch2) h6 cc0_scratch3 cc0_scratch4 cc0_scratch5 cc0_scratch6 cc0_scratch7 cc0_scratch8 cc0_scratch9 c v5 v44 v46) Q) := by
  rw [k0_part12_eq_skeleton]; unfold k0_part12_skel
  simp only [semSignalWord, semWaitWord, Prog.lift, Prog.bind_op, Prog.bind_ret, Prog.pure_eq_ret]
  iintro ⟨#HR, HO, Hr0, Hr1, Hr2⟩ Hk
  iapply (step_wait1 m ρ K (.zxR 1) du13 (by decide) rfl rfl rfl rfl) $$ [Hr0 HO]
  · isplitr; · iexact HR
    isplitl [Hr0]; · iexact Hr0
    iexact HO
  iintro ⟨HO, Hz0, Hp0⟩
  iapply (step_wait1 m ρ K (.zxS 2) du13 (by decide) rfl rfl rfl rfl) $$ [Hr1 HO]
  · isplitr; · iexact HR
    isplitl [Hr1]; · iexact Hr1
    iexact HO
  iintro ⟨HO, Hz1, Hp1⟩
  iapply (step_wait1 m ρ K (.zxR 2) du13 (by decide) rfl rfl rfl rfl) $$ [Hr2 HO]
  · isplitr; · iexact HR
    isplitl [Hr2]; · iexact Hr2
    iexact HO
  iintro ⟨HO, Hz2, Hp2⟩
  iapply (wpc_ret c)
  iapply Hk
  isplitl [HO]; · iexact HO
  isplitl [Hz0]; · iexact Hz0
  isplitl [Hz1]; · iexact Hz1
  isplitl [Hz2]; · iexact Hz2
  isplitl [Hp0]; · iexact Hp0
  isplitl [Hp1]; · iexact Hp1
  iexact Hp2

end Parts

end Cert.Fused

end
-- ==== Proof.Body.lean ====
/- The whole body of device `c`: from what the device holds at launch to its result. -/
module

public import proofs.«01_k».proof.Proof.Body1
public import proofs.«01_k».proof.Proof.Body2

@[expose] public section

set_option maxRecDepth 16384

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Kd → ℕ)

/-! ## What the device holds before and after -/

/-- The ghost state that the body uses: the barrier's tokens, and for every round or exchange the place and token at the
    sending cell, the token at the neighbour's receiving cell, and the place and credit at the device's own; and the copies'
    cell with its five tokens. -/
def ghost (c : Dev nD) : sProp 𝕄 :=
  iprop((dutyTok (ER (F := F)) (cell (lf c) .bar) 0 1 ∗ dutyTok (ER (F := F)) (cell (rt c) .bar) 0 0 ∗ dutyTok (ER (F := F)) (cell (pt c) .bar) 0 2
      ∗ cred (tallyAt (cell c .bar) () 3) ∗ atPos (ER (F := F)) (cell c .bar) 0 ∅ 0)
    ∗ (bigSep Finset.univ fun s : Fin 3 => iprop(sT (F := F) c (.rsS s) ∗ pT (F := F) c (.rsR s) ∗ rT (F := F) c (.rsR s)))
    ∗ (bigSep Finset.univ fun s : Fin 3 => iprop(sT (F := F) c (.agS s) ∗ pT (F := F) c (.agR s) ∗ rT (F := F) c (.agR s)))
    ∗ (bigSep Finset.univ fun j : Fin 4 => iprop(sT (F := F) c (.zxS j) ∗ pT (F := F) c (.zxR j) ∗ rT (F := F) c (.zxR j)))
    ∗ cpT (F := F) c 0 ∗ cT (F := F) c 0 ∗ cT (F := F) c 1 ∗ cT (F := F) c 2 ∗ cT (F := F) c 3 ∗ cT (F := F) c 4)

/-- The scratch buffers. -/
def scr (c : Dev nD) : sProp 𝕄 :=
  iprop((bigSep Finset.univ fun s : Fin 3 => slAny (F := F) c s) ∗ accAny (F := F) c ∗ tmpAny (F := F) c)
/-- The blocks of the two arrays that the body reads. -/
def srcs (c : Dev nD) : sProp 𝕄 := iprop((bigSep Finset.univ fun k : Fin 4 => srcP m ρ c k) ∗ srcR m ρ c)
/-- The result's eight blocks, at any contents: those of the device's own half and those of the partner's. -/
def outAny (c : Dev nD) : sProp 𝕄 :=
  iprop((bigSep Finset.univ fun j : Fin 4 => oAny (F := F) c (blk c (zxk j))) ∗ bigSep Finset.univ fun j : Fin 4 => oAny (F := F) c (blk (pt c) (zxk j)))
/-- The result's eight blocks, each at some share, holding what its owner computed. -/
def outFin (c : Dev nD) : sProp 𝕄 :=
  iprop((bigSep Finset.univ fun j : Fin 4 => oFin m ρ c (blk c (zxk j)) fullShare.left) ∗ bigSep Finset.univ fun j : Fin 4 => oFin m ρ c (blk (pt c) (zxk j)) fullShare)
/-- Every cell of the device closed. -/
def zeros (c : Dev nD) : sProp 𝕄 :=
  iprop(Z (F := F) c .bar ∗ (bigSep Finset.univ fun s : Fin 3 => iprop(Z (F := F) c (.rsS s) ∗ Z (F := F) c (.rsR s) ∗ Z (F := F) c (.agS s) ∗ Z (F := F) c (.agR s)))
    ∗ (bigSep Finset.univ fun j : Fin 4 => iprop(Z (F := F) c (.zxS j) ∗ Z (F := F) c (.zxR j))) ∗ Z (F := F) c .cp)

section Parts

variable {h0 : (Memref.whole main_arg0 : Memref sig .tc .hbm S1x4096x4096 .f32).IsWhole} {h1 : (Memref.whole main_arg1 : Memref sig .tc .hbm S4096x4096 .f32).IsWhole}
  {h2 : (Memref.whole cc0_stg0_0 : Memref sig .tc .vmem S4096 .f32).IsWhole} {h3 : (Memref.whole main_v1 : Memref sig .tc .hbm S4096x4096 .f32).IsWhole}
  {h4 : (Memref.whole cc0_scratch0 : Memref sig .tc .vmem S3x512x4096 .f32).IsWhole} {h5 : (Memref.whole cc0_scratch1 : Memref sig .tc .vmem S512x4096 .f32).IsWhole}
  {h6 : (Memref.whole cc0_scratch2 : Memref sig .tc .vmem S512x4096 .f32).IsWhole} {c : Dev nD}

/-- The body's first part asks for its device. -/
theorem part1_wp {Q : _ → sProp 𝕄} :
    iprop(∀ r, ⌜r.1 = c⌝ -∗ Q r) ⊢ wpc c (k0_part1 (F := F) (Memref.whole main_arg0) h0 (Memref.whole main_arg1) h1 (Memref.whole cc0_stg0_0) h2 (Memref.whole main_v1) h3 (Memref.whole cc0_scratch0) h4
          (Memref.whole cc0_scratch1) h5 (Memref.whole cc0_scratch2) h6 cc0_scratch3 cc0_scratch4 cc0_scratch5 cc0_scratch6 cc0_scratch7 cc0_scratch8 cc0_scratch9) Q := by
  rw [k0_part1_eq_skeleton]; unfold k0_part1_skel
  simp only [Prog.lift, Prog.bind_op, Prog.bind_ret, Prog.pure_eq_ret]
  unfold wpc
  rw [wp_deviceId]
  iintro Hk
  iapply (wpc_ret c)
  iapply Hk
  ipureintro; rfl

/-- The payments to the exchanges' cells are the result's blocks. -/
theorem fin_zxS (c : Dev nD) (j : Fin 4) : pay m ρ c (.zxS j) 0 0 ⊢ oFin m ρ c (blk c (zxk j)) fullShare.left := .rfl
/-- The same for what the partner sent. -/
theorem fin_zxR (c : Dev nD) (j : Fin 4) : pay m ρ c (.zxR j) 0 0 ⊢ oFin m ρ c (blk (pt c) (zxk j)) fullShare := .rfl

/-- The body. -/
theorem body_wp {q : PosShare TreeShare} {Q : PUnit → sProp 𝕄} :
    iprop(recs m ρ K ∗ OW c du0 ∗ ghost c ∗ scr c ∗ srcs m ρ c ∗ outAny c ∗ owns (c : Thread nD τ) gamM q (gm m ρ c))
      ⊢ iprop(((OW c [] ∗ zeros c ∗ scr c ∗ outFin m ρ c ∗ owns (c : Thread nD τ) gamM q (gm m ρ c)) -∗ Q ⟨⟩)
        -∗ wpc c (cc0_body (F := F) (Memref.whole main_arg0) h0 (Memref.whole main_arg1) h1 (Memref.whole cc0_stg0_0) h2 (Memref.whole main_v1) h3 (Memref.whole cc0_scratch0) h4
          (Memref.whole cc0_scratch1) h5 (Memref.whole cc0_scratch2) h6 cc0_scratch3 cc0_scratch4 cc0_scratch5 cc0_scratch6 cc0_scratch7 cc0_scratch8 cc0_scratch9) Q) := by
  rw [cc0_body_eq_skeleton]; unfold cc0_body_skel
  unfold ghost scr srcs outAny
  iintro ⟨#HR, HO, ⟨⟨Hb1, Hb0, Hb2, HbC, HbA⟩, Hrs, Hag, Hzx, Hcp, Hc0, Hc1, Hc2, Hc3, Hc4⟩, ⟨Hsl, Hacc, Htmp⟩, ⟨HsP, HsR⟩, ⟨Hoc, Hop⟩, Hg⟩ Hk
  ihave Hrs := (Entails.of_eq (bigSep_three (fun s : Fin 3 => iprop(sT (F := F) c (.rsS s) ∗ pT (F := F) c (.rsR s) ∗ rT (F := F) c (.rsR s))))) $$ Hrs
  icases Hrs with ⟨⟨HrsS0, HrsP0, HrsR0⟩, ⟨HrsS1, HrsP1, HrsR1⟩, ⟨HrsS2, HrsP2, HrsR2⟩⟩
  ihave Hag := (Entails.of_eq (bigSep_three (fun s : Fin 3 => iprop(sT (F := F) c (.agS s) ∗ pT (F := F) c (.agR s) ∗ rT (F := F) c (.agR s))))) $$ Hag
  icases Hag with ⟨⟨HagS0, HagP0, HagR0⟩, ⟨HagS1, HagP1, HagR1⟩, ⟨HagS2, HagP2, HagR2⟩⟩
  ihave Hzx := (Entails.of_eq (bigSep_four (fun j : Fin 4 => iprop(sT (F := F) c (.zxS j) ∗ pT (F := F) c (.zxR j) ∗ rT (F := F) c (.zxR j))))) $$ Hzx
  icases Hzx with ⟨⟨HzxS0, HzxP0, HzxR0⟩, ⟨HzxS1, HzxP1, HzxR1⟩, ⟨HzxS2, HzxP2, HzxR2⟩, ⟨HzxS3, HzxP3, HzxR3⟩⟩
  ihave HsP := (Entails.of_eq (bigSep_four (fun k : Fin 4 => srcP m ρ c k))) $$ HsP
  icases HsP with ⟨HsP0, HsP1, HsP2, HsP3⟩
  ihave Hoc := (Entails.of_eq (bigSep_four (fun j : Fin 4 => oAny (F := F) c (blk c (zxk j))))) $$ Hoc
  icases Hoc with ⟨Hoc0, Hoc1, Hoc2, Hoc3⟩
  iapply (wpc_bind c)
  iapply (part1_wp (c := c))
  iintro %r %hr
  obtain ⟨d0, v5, v8, c2, v27, v32, v34, v35⟩ := r
  dsimp only at hr ⊢
  subst hr
  iapply (wpc_bind d0)
  iapply (part2_wp m ρ K v5 v8 c2 v27 v32 v34 v35) $$ [HO Hb1 Hb0 Hb2 HbC HbA Hsl Hoc1 Hoc2 Hoc3 Hop HsP0 HrsS0 HrsP0]
  · isplitr; · iexact HR
    isplitl [HO]; · iexact HO
    isplitl [Hb1]; · iexact Hb1
    isplitl [Hb0]; · iexact Hb0
    isplitl [Hb2]; · iexact Hb2
    isplitl [HbC]; · iexact HbC
    isplitl [HbA]; · iexact HbA
    isplitl [Hsl]; · iexact Hsl
    isplitl [Hoc1 Hoc2 Hoc3]
    · iapply (Entails.of_eq (bigSep_three (fun s : Fin 3 => oAny (F := F) d0 (blk d0 (zxk s.succ)))).symm)
      isplitl [Hoc1]; · iexact Hoc1
      isplitl [Hoc2]; · iexact Hoc2
      iexact Hoc3
    isplitl [Hop]; · iexact Hop
    isplitl [HsP0]; · iexact HsP0
    isplitl [HrsS0]; · iexact HrsS0
    iexact HrsP0
  iintro %r ⟨HO, HZb, Hsn1, Hsn2, Hor, Hoq, HrsW0⟩
  obtain ⟨v44, v46, v54, c512⟩ := r
  dsimp only
  ihave Hor := (Entails.of_eq (bigSep_three (fun s : Fin 3 => oAny (F := F) (rt d0) (blk d0 (agk s))))) $$ Hor
  icases Hor with ⟨Hor0, Hor1, Hor2⟩
  ihave Hoq := (Entails.of_eq (bigSep_four (fun j : Fin 4 => oAny (F := F) (pt d0) (blk d0 (zxk j))))) $$ Hoq
  icases Hoq with ⟨Hoq0, Hoq1, Hoq2, Hoq3⟩
  iapply (wpc_bind d0)
  iapply (part3_wp m ρ K v5 v44 v54 c512) $$ [HO HrsW0 HrsR0 HsP3 Hc0 Hcp Htmp Hacc]
  · isplitr; · iexact HR
    isplitl [HO]; · iexact HO
    isplitl [HrsW0]; · iexact HrsW0
    isplitl [HrsR0]; · iexact HrsR0
    isplitl [HsP3]; · iexact HsP3
    isplitl [Hc0]; · iexact Hc0
    isplitl [Hcp]; · iexact Hcp
    isplitl [Htmp]; · iexact Htmp
    iexact Hacc
  iintro %v91 ⟨HO, HZs0, HZr0, Hsl0, Hcp, Htmp, Hacc⟩
  iapply (wpc_bind d0)
  iapply (part4_wp m ρ K v44 v91) $$ [HO Hacc Hsn1 HrsS1 HrsP1 HrsR1 HsP2 Hc1 Hcp Htmp]
  · isplitr; · iexact HR
    isplitl [HO]; · iexact HO
    isplitl [Hacc]; · iexact Hacc
    isplitl [Hsn1]; · iexact Hsn1
    isplitl [HrsS1]; · iexact HrsS1
    isplitl [HrsP1]; · iexact HrsP1
    isplitl [HrsR1]; · iexact HrsR1
    isplitl [HsP2]; · iexact HsP2
    isplitl [Hc1]; · iexact Hc1
    isplitl [Hcp]; · iexact Hcp
    iexact Htmp
  iintro %v117 ⟨%hv, HO, HZs1, HZr1, Hacc, Hsl1, Hcp, Htmp⟩
  subst hv
  iapply (wpc_bind d0)
  iapply (part5_wp m ρ K v5 v44) $$ [HO Hacc Hsn2 HrsS2 HrsP2 HrsR2 HsP1 Hc2 Hcp Htmp]
  · isplitr; · iexact HR
    isplitl [HO]; · iexact HO
    isplitl [Hacc]; · iexact Hacc
    isplitl [Hsn2]; · iexact Hsn2
    isplitl [HrsS2]; · iexact HrsS2
    isplitl [HrsP2]; · iexact HrsP2
    isplitl [HrsR2]; · iexact HrsR2
    isplitl [HsP1]; · iexact HsP1
    isplitl [Hc2]; · iexact Hc2
    isplitl [Hcp]; · iexact Hcp
    iexact Htmp
  iintro %u5 ⟨HO, HZs2, HZr2, Hacc, Hsl2, Hcp, Htmp⟩
  iapply (wpc_bind d0)
  iapply (part6_wp m ρ K v5 v44) $$ [HO Hsl2 Htmp Hacc HsR Hc3 Hcp Hg]
  · isplitr; · iexact HR
    isplitl [HO]; · iexact HO
    isplitl [Hsl2]; · iexact Hsl2
    isplitl [Htmp]; · iexact Htmp
    isplitl [Hacc]; · iexact Hacc
    isplitl [HsR]; · iexact HsR
    isplitl [Hc3]; · iexact Hc3
    isplitl [Hcp]; · iexact Hcp
    iexact Hg
  iintro %r ⟨HO, Hsl2, Htmp, Hacc, Hcp, Hg⟩
  obtain ⟨v153, c512'⟩ := r
  dsimp only
  iapply (wpc_bind d0)
  iapply (part7_wp m ρ K v5 v44 v153 c512') $$ [HO Hacc Hoc0 Hc4 Hcp Hoq0 HzxS0 HzxP0 Hor0 HagS0 HagP0]
  · isplitr; · iexact HR
    isplitl [HO]; · iexact HO
    isplitl [Hacc]; · iexact Hacc
    isplitl [Hoc0]; · iexact Hoc0
    isplitl [Hc4]; · iexact Hc4
    isplitl [Hcp]; · iexact Hcp
    isplitl [Hoq0]; · iexact Hoq0
    isplitl [HzxS0]; · iexact HzxS0
    isplitl [HzxP0]; · iexact HzxP0
    isplitl [Hor0]; · iexact Hor0
    isplitl [HagS0]; · iexact HagS0
    iexact HagP0
  iintro %u7 ⟨HO, Hacc, HZcp, HzxW0, HagW0⟩
  iapply (wpc_bind d0)
  iapply (part8_wp m ρ K v5 v44) $$ [HO HagW0 HagR0 Hoq1 HzxS1 HzxP1]
  · isplitr; · iexact HR
    isplitl [HO]; · iexact HO
    isplitl [HagW0]; · iexact HagW0
    isplitl [HagR0]; · iexact HagR0
    isplitl [Hoq1]; · iexact Hoq1
    isplitl [HzxS1]; · iexact HzxS1
    iexact HzxP1
  iintro %u8 ⟨HO, HZas0, HZar0, Hr, HzxW1⟩
  iapply (wpc_bind d0)
  iapply (part9_wp m ρ K v5 v44) $$ [HO Hr Hor1 HagS1 HagP1 HagR1 Hoq2 HzxS2 HzxP2]
  · isplitr; · iexact HR
    isplitl [HO]; · iexact HO
    isplitl [Hr]; · iexact Hr
    isplitl [Hor1]; · iexact Hor1
    isplitl [HagS1]; · iexact HagS1
    isplitl [HagP1]; · iexact HagP1
    isplitl [HagR1]; · iexact HagR1
    isplitl [Hoq2]; · iexact Hoq2
    isplitl [HzxS2]; · iexact HzxS2
    iexact HzxP2
  iintro %u9 ⟨HO, HZas1, HZar1, Hr, HzxW2⟩
  iapply (wpc_bind d0)
  iapply (part10_wp m ρ K v5 v44) $$ [HO Hr Hor2 HagS2 HagP2 HagR2 Hoq3 HzxS3 HzxP3]
  · isplitr; · iexact HR
    isplitl [HO]; · iexact HO
    isplitl [Hr]; · iexact Hr
    isplitl [Hor2]; · iexact Hor2
    isplitl [HagS2]; · iexact HagS2
    isplitl [HagP2]; · iexact HagP2
    isplitl [HagR2]; · iexact HagR2
    isplitl [Hoq3]; · iexact Hoq3
    isplitl [HzxS3]; · iexact HzxS3
    iexact HzxP3
  iintro %v301 ⟨HO, HZas2, HZar2, -, HzxW3⟩
  iapply (wpc_bind d0)
  iapply (part11_wp m ρ K v5 v44 v46 v301) $$ [HO HzxW0 HzxR0 HzxW1]
  · isplitr; · iexact HR
    isplitl [HO]; · iexact HO
    isplitl [HzxW0]; · iexact HzxW0
    isplitl [HzxR0]; · iexact HzxR0
    iexact HzxW1
  iintro %u11 ⟨HO, HZzs0, HZzr0, HZzs1, Hf0, Hq0, Hf1⟩
  iapply (wpc_bind d0)
  iapply (part12_wp m ρ K v5 v44 v46) $$ [HO HzxR1 HzxW2 HzxR2]
  · isplitr; · iexact HR
    isplitl [HO]; · iexact HO
    isplitl [HzxR1]; · iexact HzxR1
    isplitl [HzxW2]; · iexact HzxW2
    iexact HzxR2
  iintro %v358 ⟨HO, HZzr1, HZzs2, HZzr2, Hq1, Hf2, Hq2⟩
  simp only [Prog.lift, Prog.bind_op, Prog.bind_ret, Prog.pure_eq_ret]
  iapply (step_wait1 m ρ K (.zxS 3) du13 (by decide) rfl rfl rfl rfl) $$ [HzxW3 HO]
  · isplitr; · iexact HR
    isplitl [HzxW3]; · iexact HzxW3
    iexact HO
  iintro ⟨HO, HZzs3, Hf3⟩
  iapply (step_wait1 m ρ K (.zxR 3) du13 (by decide) rfl rfl rfl rfl) $$ [HzxR3 HO]
  · isplitr; · iexact HR
    isplitl [HzxR3]; · iexact HzxR3
    iexact HO
  iintro ⟨HO, HZzr3, Hq3⟩
  iapply (wpc_ret d0)
  iapply Hk
  unfold zeros outFin

  isplitl [HO]; · iexact HO
  isplitl [HZb HZs0 HZr0 HZs1 HZr1 HZs2 HZr2 HZas0 HZar0 HZas1 HZar1 HZas2 HZar2 HZzs0 HZzr0 HZzs1 HZzr1 HZzs2 HZzr2 HZzs3 HZzr3 HZcp]
  · isplitl [HZb]; · iexact HZb
    isplitl [HZs0 HZr0 HZs1 HZr1 HZs2 HZr2 HZas0 HZar0 HZas1 HZar1 HZas2 HZar2]
    · rw [bigSep_three]
      isplitl [HZs0 HZr0 HZas0 HZar0]
      · isplitl [HZs0]; · iexact HZs0
        isplitl [HZr0]; · iexact HZr0
        isplitl [HZas0]; · iexact HZas0
        iexact HZar0
      isplitl [HZs1 HZr1 HZas1 HZar1]
      · isplitl [HZs1]; · iexact HZs1
        isplitl [HZr1]; · iexact HZr1
        isplitl [HZas1]; · iexact HZas1
        iexact HZar1
      isplitl [HZs2]; · iexact HZs2
      isplitl [HZr2]; · iexact HZr2
      isplitl [HZas2]; · iexact HZas2
      iexact HZar2
    isplitl [HZzs0 HZzr0 HZzs1 HZzr1 HZzs2 HZzr2 HZzs3 HZzr3]
    · rw [bigSep_four]
      isplitl [HZzs0 HZzr0]
      · isplitl [HZzs0]; · iexact HZzs0
        iexact HZzr0
      isplitl [HZzs1 HZzr1]
      · isplitl [HZzs1]; · iexact HZzs1
        iexact HZzr1
      isplitl [HZzs2 HZzr2]
      · isplitl [HZzs2]; · iexact HZzs2
        iexact HZzr2
      isplitl [HZzs3]; · iexact HZzs3
      iexact HZzr3
    iexact HZcp
  isplitl [Hsl0 Hsl1 Hsl2 Hacc Htmp]
  · isplitl [Hsl0 Hsl1 Hsl2]
    · rw [bigSep_three]
      isplitl [Hsl0]; · iexact Hsl0
      isplitl [Hsl1]; · iexact Hsl1
      iexact Hsl2
    isplitl [Hacc]; · iexact Hacc
    iexact Htmp
  isplitr [Hg]
  · isplitl [Hf0 Hf1 Hf2 Hf3]
    · rw [bigSep_four]
      isplitl [Hf0]; · iapply (fin_zxS m ρ d0 0); iexact Hf0
      isplitl [Hf1]; · iapply (fin_zxS m ρ d0 1); iexact Hf1
      isplitl [Hf2]; · iapply (fin_zxS m ρ d0 2); iexact Hf2
      iapply (fin_zxS m ρ d0 3); iexact Hf3
    rw [bigSep_four]
    isplitl [Hq0]; · iapply (fin_zxR m ρ d0 0); iexact Hq0
    isplitl [Hq1]; · iapply (fin_zxR m ρ d0 1); iexact Hq1
    isplitl [Hq2]; · iapply (fin_zxR m ρ d0 2); iexact Hq2
    iapply (fin_zxR m ρ d0 3); iexact Hq3
  iexact Hg

end Parts

end Cert.Fused

end
-- ==== Proof.Deal.lean ====
/- What the launch deals: the cells and the tokens of the rounds, the credit of every cell, and from them what each
   device's body starts from. -/
module

public import proofs.«01_k».proof.Proof.Body

@[expose] public section

set_option maxRecDepth 16384

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- The listed kinds are all of them. -/
theorem univ_allK : (Finset.univ : Finset Kd) = allK.toFinset := by
  ext k; exact ⟨fun _ => List.mem_toFinset.mpr (mem_allK k), fun _ => Finset.mem_univ k⟩

/-- Two cells are the same only for the same device and kind. -/
theorem kcell_inj : Function.Injective (fun p : Dev nD × Kd => cell p.1 p.2) := fun a b h =>
  Prod.ext (cell_inj h).1 (cell_inj h).2
/-- Every cell of every device. -/
def ringCells : Finset (GSem nD τ sig) := Finset.univ.map ⟨fun p : Dev nD × Kd => cell p.1 p.2, kcell_inj⟩

/-- The payments to a device's cells: the kind, the round, who pays. -/
def tokL : List (Kd × ℕ × Fin 3) :=
  [(.bar, 0, 0), (.bar, 0, 1), (.bar, 0, 2), (.rsS 0, 0, 0), (.rsS 1, 0, 0), (.rsS 2, 0, 0), (.rsR 0, 0, 0), (.rsR 1, 0, 0), (.rsR 2, 0, 0), (.agS 0, 0, 0), (.agS 1, 0, 0), (.agS 2, 0, 0), (.agR 0, 0, 0), (.agR 1, 0, 0), (.agR 2, 0, 0), (.zxS 0, 0, 0), (.zxS 1, 0, 0), (.zxS 2, 0, 0), (.zxS 3, 0, 0), (.zxR 0, 0, 0), (.zxR 1, 0, 0), (.zxR 2, 0, 0), (.zxR 3, 0, 0), (.cp, 0, 0), (.cp, 1, 0), (.cp, 2, 0), (.cp, 3, 0), (.cp, 4, 0)]
/-- No payment is listed twice. -/
theorem tokL_nodup : tokL.Nodup := by decide
/-- The `i`-th of them. -/
def tk (i : Fin 28) : Kd × ℕ × Fin 3 := tokL.get i
/-- So different places in the list hold different payments. -/
theorem tk_inj : Function.Injective tk := List.nodup_iff_injective_get.mp tokL_nodup
/-- A payment to a cell of device `p.1`. -/
abbrev tokOf (p : Dev nD × Fin 28) : GSem nD τ sig × ℕ × Fin 3 := (cell p.1 (tk p.2).1, (tk p.2).2.1, (tk p.2).2.2)
/-- Two payments are the same only for the same device and the same place in the list. -/
theorem tokOf_inj : Function.Injective tokOf := fun a b h => by
  have h1 := cell_inj (congrArg Prod.fst h)
  have h2 : (tk a.2).2.1 = (tk b.2).2.1 := congrArg (fun x : GSem nD τ sig × ℕ × Fin 3 => x.2.1) h
  have h3 : (tk a.2).2.2 = (tk b.2).2.2 := congrArg (fun x : GSem nD τ sig × ℕ × Fin 3 => x.2.2) h
  exact Prod.ext h1.1 (tk_inj (Prod.ext h1.2 (Prod.ext h2 h3)))
/-- Every payment. -/
def ringToks : Finset (GSem nD τ sig × ℕ × Fin 3) := Finset.univ.map ⟨tokOf, tokOf_inj⟩

/-- The launch element: the pipeline's and the kernel's. -/
def u₀ : UU := (initOf (Pipeline.cells cfgs cellOf_inj) (Pipeline.launchToks cfgs cellOf_inj), initOf ringCells ringToks)

/-- A device's position on one of its cells. -/
abbrev Pos (c : Dev nD) (k : Kd) : sProp 𝕄 := atPos ER (cell c k) 0 ∅ 0
/-- The token of one payment that device `c` makes. -/
abbrev pTok (c : Dev nD) (k : Kd) (r : ℕ) (d : Fin 3) : sProp 𝕄 := dutyTok ER (cell (tgt k d c) k) r d
/-- The tokens of the payments to a device's cells. -/
def toks (c : Dev nD) : sProp 𝕄 := bigSep Finset.univ fun i : Fin 28 => dutyTok ER (cell c (tk i).1) (tk i).2.1 (tk i).2.2
/-- The tokens of the payments that a device makes. -/
def payToks (c : Dev nD) : sProp 𝕄 := bigSep Finset.univ fun i : Fin 28 => pTok c (tk i).1 (tk i).2.1 (tk i).2.2

/-- What the launch element deals to a device. -/
def G (c : Dev nD) : sProp 𝕄 :=
  iprop((bigSep Finset.univ fun k : Kd => roundState ER (sched (F := F) m ρ) (cell c k) 0)
    ∗ (bigSep Finset.univ fun k : Kd => Pos c k) ∗ (bigSep Finset.univ fun k : Kd => reached ER (cell c k) 0) ∗ toks c)

/-- An assertion about every cell, device by device and kind by kind. -/
theorem bigSep_cells (Φ : GSem nD τ sig → sProp 𝕄) :
    bigSep ringCells Φ = bigSep Finset.univ fun c : Dev nD => bigSep Finset.univ fun k : Kd => Φ (cell c k) := by
  unfold ringCells; rw [bigSep_map, bigSep_univ_prod]; rfl

/-- The ghost state at launch, dealt out: every device has its cells' states, positions, first rounds and payment tokens. -/
theorem fund_cells : BI.own (ER (initOf ringCells ringToks)) ⊢ (|==> bigSep Finset.univ (G m ρ) : sProp 𝕄) := by
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (sched (F := F) m ρ) ringCells ringToks) $$ HX with ⟨Hst, Hr, Hat, Htok⟩
  imodintro
  ihave Hst' := (Entails.of_eq (bigSep_cells fun g => roundState ER (sched (F := F) m ρ) g 0)) $$ Hst
  ihave Hat' := (Entails.of_eq (bigSep_cells (F := F) fun g => atPos ER g 0 ∅ 0)) $$ Hat
  ihave Hr' := (Entails.of_eq (bigSep_cells (F := F) fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## Semaphores -/

/-- The kernel's own semaphores. -/
abbrev osem (i : Fin 21) : SemLoc sig := csem (allK.get i.succ)
/-- They are distinct, and the kernel's scoped semaphores are those. -/
theorem ownSemFacts : Pipeline.OwnSemFacts cfg0.spec osem := by decide
/-- The one semaphore that outlives the call is the barrier's. -/
theorem unscopedSems0_eq (c : Dev nD) : (unscopedSems0 c : sProp 𝕄) = semVal (cell c .bar) 0 := by
  unfold unscopedSems0; rw [bigSep_eq_bigSepL_of_eq [SemLoc.reg barS] (by decide) (by decide)]; rfl
/-- The barrier's semaphore and the kernel's own are every cell's. -/
theorem sems_eq (c : Dev nD) :
    iprop(unscopedSems0 c ∗ Pipeline.ownSems0 (Ix := Unit) (Name := ℕ) (U := UU) (Lvl := ℕ) (Val := Elt F) (τ := τ) osem c)
      = (bigSep Finset.univ fun k : Kd => semVal (cell c k) 0 : sProp 𝕄) := by
  rw [unscopedSems0_eq, Pipeline.ownSems0_eq_of_list c osem [0, 1, 2, 3, 4, 5, 6, 7, 8, 9, 10, 11, 12, 13, 14, 15, 16, 17, 18, 19, 20] (by decide) (by decide),
    bigSep_univ_eq_bigSepL allK univ_allK allK_nodup]
  rfl

/-! ## The invariants, for every device at once -/

/-- The cells' invariants and first rounds. -/
def recsI (K : Dev nD × Kd → ℕ) : sProp 𝕄 :=
  iprop((bigSep Finset.univ fun p : Dev nD × Kd => cellInv ER (sched (F := F) m ρ) (K p) (cell p.1 p.2))
    ∗ (bigSep Finset.univ fun p : Dev nD × Kd => reached (ER (F := F)) (cell p.1 p.2) 0))
/-- These facts may be used any number of times. -/
instance recsI_persistent (K : Dev nD × Kd → ℕ) : BI.Persistent (recsI m ρ K) := by unfold recsI; infer_instance

/-- What the global step makes of what was dealt to a device. -/
def G' (c : Dev nD) : sProp 𝕄 := iprop(∃ K, recsI m ρ K ∗ (bigSep Finset.univ fun k : Kd => Pos c k) ∗ payToks c)

/-- What a device holds once its cells are under invariants. -/
def G1 (c : Dev nD) : sProp 𝕄 :=
  iprop((bigSep Finset.univ fun k => iprop(∃ κ : ℕ, cellInv ER (sched (F := F) m ρ) κ (cell c k)))
    ∗ (bigSep Finset.univ fun k : Kd => Pos c k) ∗ (bigSep Finset.univ fun k : Kd => reached ER (cell c k) 0) ∗ toks c)

/-- A device's cells go under their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> G1 m ρ c := by
  unfold G G1
  iintro ⟨Hos, Hus, Hst, Hat, Hr, Htok⟩
  ihave Hv := (Entails.of_eq (sems_eq (F := F) c)) $$ [Hos Hus]
  · isplitl [Hus] <;> iassumption
  imod (show iprop((bigSep Finset.univ fun k : Kd => semVal (cell c k) 0) ∗ bigSep Finset.univ fun k : Kd => roundState ER (sched (F := F) m ρ) (cell c k) 0)
      ⊢ (|={Set.univ}=> bigSep Finset.univ fun k => iprop(∃ κ : ℕ, cellInv ER (sched (F := F) m ρ) κ (cell c k)) : sProp 𝕄) from by
        rw [← bigSep_sep']
        exact (bigSep_mono fun k _ => (Rounds.body_intro ER (sched (F := F) m ρ) (cell c k)).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-- The tokens of the payments to every device are those of the payments by every device. -/
theorem toks_around : (bigSep Finset.univ fun c : Dev nD => (toks c : sProp 𝕄)) = bigSep Finset.univ fun c : Dev nD => payToks c := by
  unfold toks payToks
  exact (BI.bigSep_univ_comm _).trans ((bigSep_congr fun i _ =>
    bigSep_univ_equiv (tgt (tk i).1 (tk i).2.2) (fun c : Dev nD => (dutyTok ER (cell c (tk i).1) (tk i).2.1 (tk i).2.2 : sProp 𝕄))).trans (BI.bigSep_univ_comm _).symm)

/-- The invariants of every device become known to all, and each token goes to the device that pays. -/
theorem regroup : (bigSep Finset.univ fun c : Dev nD => G1 m ρ c) ⊢ bigSep Finset.univ (G' m ρ) := by
  unfold G1
  rw [bigSep_sep', bigSep_sep', bigSep_sep', ← bigSep_univ_prod (fun p : Dev nD × Kd => iprop(∃ κ : ℕ, cellInv ER (sched (F := F) m ρ) κ (cell p.1 p.2))),
    ← bigSep_univ_prod (fun p : Dev nD × Kd => (reached ER (cell p.1 p.2) 0 : sProp 𝕄)), toks_around]
  iintro ⟨HI, Hat, #HR, Htok⟩
  ihave HK := (BI.bigSep_exists_pi Finset.univ (fun (p : Dev nD × Kd) (κ : ℕ) => (cellInv ER (sched (F := F) m ρ) κ (cell p.1 p.2) : sProp 𝕄))) $$ HI
  icases HK with ⟨%K, #HI⟩
  iapply (BI.bigSep_with_persistent (R := recsI m ρ K) (Φ := fun c : Dev nD => iprop((bigSep Finset.univ fun k : Kd => Pos c k) ∗ payToks c))
    fun c _ => show _ ⊢ G' m ρ c from by
      unfold G'
      iintro ⟨H1, H2, H3⟩
      iexists K
      isplitl [H1]; · iexact H1
      isplitl [H2] <;> iassumption)
  isplitr
  · unfold recsI; isplitl; · iexact HI
    iexact HR
  · rw [bigSep_sep']
    isplitl [Hat] <;> iassumption

/-- The two steps together, for every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What every device together owes a device's cell of kind `k`. -/
def due (k : Kd) : ℕ := ((dues.filter fun p => decide (p.1 = k)).length) * amt k

/-- What all devices owe a cell is its number of payments times one payment. -/
theorem sum_owe (c : Dev nD) (k : Kd) : ∀ l : List (Kd × Fin 3),
    (∑ d : Dev nD, owe d l (cell c k) ()) = ((l.filter fun p => decide (p.1 = k)).length) * amt k
  | [] => by rw [List.filter_nil, List.length_nil, Nat.zero_mul]; exact Finset.sum_eq_zero fun d _ => rfl
  | p :: l => by
    have h (d : Dev nD) : owe d (p :: l) (cell c k) () = owe d l (cell c k) () + (if p.1 = k then (if d = (tgt p.1 p.2).symm c then amt k else 0) else 0) := by
      rw [owe_cons, Pi.add_apply, Finsupp.add_apply, tallyAt_apply]
      refine congrArg _ ?_
      by_cases hk : p.1 = k
      · rw [if_pos hk]
        by_cases hd : d = (tgt p.1 p.2).symm c
        · rw [if_pos hd, if_pos ⟨by rw [hd, Equiv.apply_symm_apply, hk], rfl⟩, hk]
        · rw [if_neg hd, if_neg fun h' => hd (by rw [(cell_inj h'.1).1, Equiv.symm_apply_apply])]
      · rw [if_neg hk, if_neg fun h' => hk (cell_inj h'.1).2.symm]
    rw [Finset.sum_congr rfl fun d _ => h d, Finset.sum_add_distrib, sum_owe c k l]
    by_cases hk : p.1 = k
    · rw [List.filter_cons_of_pos (by simpa using hk), List.length_cons, Nat.succ_mul]
      refine congrArg _ ?_
      rw [Finset.sum_congr rfl fun d _ => if_pos hk, Finset.sum_ite_eq' Finset.univ ((tgt p.1 p.2).symm c) fun _ => amt k, if_pos (Finset.mem_univ _)]
    · rw [List.filter_cons_of_neg (by simpa using hk), Finset.sum_congr rfl fun d _ => if_neg hk, Finset.sum_const_zero, Nat.add_zero]

/-- So the credit that the launch makes for a cell is what it is due. -/
theorem launch_credit (c : Dev nD) (k : Kd) :
    tallyOn (cell c k) (launchCredit (Pipeline.owing fun d => owe d dues) 0 (cell c k)) = (tallyAt (cell c k) () (due k) : CellTallies nD τ sig Unit) := by
  unfold tallyAt; refine congrArg _ (Finsupp.ext fun u => ?_); cases u
  rw [Pipeline.launchCredit_owing, Finsupp.single_eq_same, sum_owe]; rfl

/-- A cell's credit at launch. -/
abbrev cr (c : Dev nD) (k : Kd) : sProp 𝕄 := cred (tallyAt (cell c k) () (due k))

/-- A device's credit at launch covers every one of its cells. -/
theorem creds (c : Dev nD) : (Pipeline.launchCred (fun d => owe d dues) c : sProp 𝕄) ⊢ bigSep Finset.univ fun k : Kd => cr c k := by
  unfold Pipeline.launchCred
  refine (BI.bigSep_subset (t := Finset.univ.map ⟨csem, csem_inj⟩) (Finset.subset_univ _)).trans ?_
  rw [bigSep_map]
  exact bigSep_mono fun k _ => Entails.of_eq (congrArg cred (launch_credit c k))

/-- The barrier is due three units. -/
theorem due_bar : due .bar = 3 := rfl
/-- A receive cell of the reduction is due one transfer. -/
theorem due_rsR (s : Fin 3) : due (.rsR s) = N0 := by
  have h : ((dues.filter fun p => decide (p.1 = .rsR s)).length) = 1 := by revert s; decide
  unfold due; rw [h, Nat.one_mul]; rfl
/-- A receive cell of the gathering is due one transfer. -/
theorem due_agR (s : Fin 3) : due (.agR s) = N0 := by
  have h : ((dues.filter fun p => decide (p.1 = .agR s)).length) = 1 := by revert s; decide
  unfold due; rw [h, Nat.one_mul]; rfl
/-- A receive cell of the exchanges is due one transfer. -/
theorem due_zxR (j : Fin 4) : due (.zxR j) = N0 := by
  have h : ((dues.filter fun p => decide (p.1 = .zxR j)).length) = 1 := by revert j; decide
  unfold due; rw [h, Nat.one_mul]; rfl

/-! ## What a device's body starts from -/

/-- A device's positions at its cells, one by one. -/
theorem pos_chain (c : Dev nD) : (bigSep Finset.univ fun k : Kd => (Pos c k : sProp 𝕄)) ⊢ iprop(Pos c .bar ∗ Pos c (.rsS 0) ∗ Pos c (.rsS 1) ∗ Pos c (.rsS 2) ∗ Pos c (.rsR 0) ∗ Pos c (.rsR 1) ∗ Pos c (.rsR 2) ∗ Pos c (.agS 0) ∗ Pos c (.agS 1) ∗ Pos c (.agS 2) ∗ Pos c (.agR 0) ∗ Pos c (.agR 1) ∗ Pos c (.agR 2) ∗ Pos c (.zxS 0) ∗ Pos c (.zxS 1) ∗ Pos c (.zxS 2) ∗ Pos c (.zxS 3) ∗ Pos c (.zxR 0) ∗ Pos c (.zxR 1) ∗ Pos c (.zxR 2) ∗ Pos c (.zxR 3) ∗ Pos c .cp ) := by
  rw [bigSep_univ_eq_bigSepL allK univ_allK allK_nodup]; exact .rfl
/-- A device's credits, one by one. -/
theorem cr_chain (c : Dev nD) : (bigSep Finset.univ fun k : Kd => (cr c k : sProp 𝕄)) ⊢ iprop(cr c .bar ∗ cr c (.rsS 0) ∗ cr c (.rsS 1) ∗ cr c (.rsS 2) ∗ cr c (.rsR 0) ∗ cr c (.rsR 1) ∗ cr c (.rsR 2) ∗ cr c (.agS 0) ∗ cr c (.agS 1) ∗ cr c (.agS 2) ∗ cr c (.agR 0) ∗ cr c (.agR 1) ∗ cr c (.agR 2) ∗ cr c (.zxS 0) ∗ cr c (.zxS 1) ∗ cr c (.zxS 2) ∗ cr c (.zxS 3) ∗ cr c (.zxR 0) ∗ cr c (.zxR 1) ∗ cr c (.zxR 2) ∗ cr c (.zxR 3) ∗ cr c .cp ) := by
  rw [bigSep_univ_eq_bigSepL allK univ_allK allK_nodup]; exact .rfl
/-- A device's payment tokens, one by one. -/
theorem tok_chain (c : Dev nD) : (payToks c : sProp 𝕄) ⊢ iprop(pTok c .bar 0 0 ∗ pTok c .bar 0 1 ∗ pTok c .bar 0 2 ∗ pTok c (.rsS 0) 0 0 ∗ pTok c (.rsS 1) 0 0 ∗ pTok c (.rsS 2) 0 0 ∗ pTok c (.rsR 0) 0 0 ∗ pTok c (.rsR 1) 0 0 ∗ pTok c (.rsR 2) 0 0 ∗ pTok c (.agS 0) 0 0 ∗ pTok c (.agS 1) 0 0 ∗ pTok c (.agS 2) 0 0 ∗ pTok c (.agR 0) 0 0 ∗ pTok c (.agR 1) 0 0 ∗ pTok c (.agR 2) 0 0 ∗ pTok c (.zxS 0) 0 0 ∗ pTok c (.zxS 1) 0 0 ∗ pTok c (.zxS 2) 0 0 ∗ pTok c (.zxS 3) 0 0 ∗ pTok c (.zxR 0) 0 0 ∗ pTok c (.zxR 1) 0 0 ∗ pTok c (.zxR 2) 0 0 ∗ pTok c (.zxR 3) 0 0 ∗ pTok c .cp 0 0 ∗ pTok c .cp 1 0 ∗ pTok c .cp 2 0 ∗ pTok c .cp 3 0 ∗ pTok c .cp 4 0 ) := by
  unfold payToks
  rw [bigSep_univ_eq_bigSepL [0, 1, 2, 3, 4, 5, 6, 7, 8, 9, 10, 11, 12, 13, 14, 15, 16, 17, 18, 19, 20, 21, 22, 23, 24, 25, 26, 27] (by decide) (by decide)]; exact .rfl

/-- One round of a family of transfers, from its tokens, positions and credit. -/
theorem round_intro (c : Dev nD) (a b : Kd) (ha : tgt a 0 = Equiv.refl _) (hb : due b = N0) :
    iprop(Pos c a ∗ pTok c a 0 0 ∗ pTok c b 0 0 ∗ Pos c b ∗ cr c b) ⊢ (iprop(sT c a ∗ pT c b ∗ rT c b) : sProp 𝕄) := by
  have e : (pTok c a 0 0 : sProp 𝕄) ⊢ dutyTok ER (cell c a) 0 0 := by unfold pTok; rw [ha]; exact .rfl
  have e' : (pTok c b 0 0 : sProp 𝕄) ⊢ pT c b := .rfl
  have e'' : (cr c b : sProp 𝕄) ⊢ cred (tallyAt (cell c b) () N0) := by unfold cr; rw [hb]
  unfold sT rT
  iintro ⟨H1, H2, H3, H4, H5⟩
  isplitl [H1 H2]
  · isplitl [H1]; · iexact H1
    iapply e; iexact H2
  isplitl [H3]; · iapply e'; iexact H3
  isplitl [H4]; · iexact H4
  iapply e''; iexact H5

/-- The token of a copy's round. -/
theorem cT_intro (c : Dev nD) (r : ℕ) : (pTok c .cp r 0 : sProp 𝕄) ⊢ cT c r := .rfl

/-- The positions, tokens and credits dealt to a device, as its body takes them. -/
theorem ghost_intro (c : Dev nD) :
    iprop((bigSep Finset.univ fun k : Kd => Pos c k) ∗ payToks c ∗ (bigSep Finset.univ fun k : Kd => cr c k) ∗ reached ER (cell c .cp) 0)
      ⊢ (ghost c : sProp 𝕄) := by
  unfold ghost
  simp only [bigSep_three, bigSep_four]
  iintro ⟨HP, HT, HC, HR⟩
  ihave HP := (pos_chain c) $$ HP
  ihave HT := (tok_chain c) $$ HT
  ihave HC := (cr_chain c) $$ HC
  icases HP with ⟨Pbar, PrsS0, PrsS1, PrsS2, PrsR0, PrsR1, PrsR2, PagS0, PagS1, PagS2, PagR0, PagR1, PagR2, PzxS0, PzxS1, PzxS2, PzxS3, PzxR0, PzxR1, PzxR2, PzxR3, Pcp⟩
  icases HT with ⟨Tbar_0, Tbar_1, Tbar_2, TrsS0, TrsS1, TrsS2, TrsR0, TrsR1, TrsR2, TagS0, TagS1, TagS2, TagR0, TagR1, TagR2, TzxS0, TzxS1, TzxS2, TzxS3, TzxR0, TzxR1, TzxR2, TzxR3, Tcp_0, Tcp_1, Tcp_2, Tcp_3, Tcp_4⟩
  icases HC with ⟨Cbar, -, -, -, CrsR0, CrsR1, CrsR2, -, -, -, CagR0, CagR1, CagR2, -, -, -, -, CzxR0, CzxR1, CzxR2, CzxR3, -⟩
  isplitl [Tbar_0 Tbar_1 Tbar_2 Cbar Pbar]
  · isplitl [Tbar_1]; · iexact Tbar_1
    isplitl [Tbar_0]; · iexact Tbar_0
    isplitl [Tbar_2]; · iexact Tbar_2
    isplitl [Cbar]; · iexact Cbar
    iexact Pbar
  isplitl [PrsS0 TrsS0 TrsR0 PrsR0 CrsR0 PrsS1 TrsS1 TrsR1 PrsR1 CrsR1 PrsS2 TrsS2 TrsR2 PrsR2 CrsR2]
  · isplitl [PrsS0 TrsS0 TrsR0 PrsR0 CrsR0]
    · iapply (round_intro c (.rsS 0) (.rsR 0) rfl (due_rsR 0))
      isplitl [PrsS0]; · iexact PrsS0
      isplitl [TrsS0]; · iexact TrsS0
      isplitl [TrsR0]; · iexact TrsR0
      isplitl [PrsR0]; · iexact PrsR0
      iexact CrsR0
    isplitl [PrsS1 TrsS1 TrsR1 PrsR1 CrsR1]
    · iapply (round_intro c (.rsS 1) (.rsR 1) rfl (due_rsR 1))
      isplitl [PrsS1]; · iexact PrsS1
      isplitl [TrsS1]; · iexact TrsS1
      isplitl [TrsR1]; · iexact TrsR1
      isplitl [PrsR1]; · iexact PrsR1
      iexact CrsR1
    iapply (round_intro c (.rsS 2) (.rsR 2) rfl (due_rsR 2))
    isplitl [PrsS2]; · iexact PrsS2
    isplitl [TrsS2]; · iexact TrsS2
    isplitl [TrsR2]; · iexact TrsR2
    isplitl [PrsR2]; · iexact PrsR2
    iexact CrsR2
  isplitl [PagS0 TagS0 TagR0 PagR0 CagR0 PagS1 TagS1 TagR1 PagR1 CagR1 PagS2 TagS2 TagR2 PagR2 CagR2]
  · isplitl [PagS0 TagS0 TagR0 PagR0 CagR0]
    · iapply (round_intro c (.agS 0) (.agR 0) rfl (due_agR 0))
      isplitl [PagS0]; · iexact PagS0
      isplitl [TagS0]; · iexact TagS0
      isplitl [TagR0]; · iexact TagR0
      isplitl [PagR0]; · iexact PagR0
      iexact CagR0
    isplitl [PagS1 TagS1 TagR1 PagR1 CagR1]
    · iapply (round_intro c (.agS 1) (.agR 1) rfl (due_agR 1))
      isplitl [PagS1]; · iexact PagS1
      isplitl [TagS1]; · iexact TagS1
      isplitl [TagR1]; · iexact TagR1
      isplitl [PagR1]; · iexact PagR1
      iexact CagR1
    iapply (round_intro c (.agS 2) (.agR 2) rfl (due_agR 2))
    isplitl [PagS2]; · iexact PagS2
    isplitl [TagS2]; · iexact TagS2
    isplitl [TagR2]; · iexact TagR2
    isplitl [PagR2]; · iexact PagR2
    iexact CagR2
  isplitl [PzxS0 TzxS0 TzxR0 PzxR0 CzxR0 PzxS1 TzxS1 TzxR1 PzxR1 CzxR1 PzxS2 TzxS2 TzxR2 PzxR2 CzxR2 PzxS3 TzxS3 TzxR3 PzxR3 CzxR3]
  · isplitl [PzxS0 TzxS0 TzxR0 PzxR0 CzxR0]
    · iapply (round_intro c (.zxS 0) (.zxR 0) rfl (due_zxR 0))
      isplitl [PzxS0]; · iexact PzxS0
      isplitl [TzxS0]; · iexact TzxS0
      isplitl [TzxR0]; · iexact TzxR0
      isplitl [PzxR0]; · iexact PzxR0
      iexact CzxR0
    isplitl [PzxS1 TzxS1 TzxR1 PzxR1 CzxR1]
    · iapply (round_intro c (.zxS 1) (.zxR 1) rfl (due_zxR 1))
      isplitl [PzxS1]; · iexact PzxS1
      isplitl [TzxS1]; · iexact TzxS1
      isplitl [TzxR1]; · iexact TzxR1
      isplitl [PzxR1]; · iexact PzxR1
      iexact CzxR1
    isplitl [PzxS2 TzxS2 TzxR2 PzxR2 CzxR2]
    · iapply (round_intro c (.zxS 2) (.zxR 2) rfl (due_zxR 2))
      isplitl [PzxS2]; · iexact PzxS2
      isplitl [TzxS2]; · iexact TzxS2
      isplitl [TzxR2]; · iexact TzxR2
      isplitl [PzxR2]; · iexact PzxR2
      iexact CzxR2
    iapply (round_intro c (.zxS 3) (.zxR 3) rfl (due_zxR 3))
    isplitl [PzxS3]; · iexact PzxS3
    isplitl [TzxS3]; · iexact TzxS3
    isplitl [TzxR3]; · iexact TzxR3
    isplitl [PzxR3]; · iexact PzxR3
    iexact CzxR3
  isplitl [Pcp HR]
  · unfold cpT; isplitl [Pcp] <;> iassumption
  isplitl [Tcp_0]; · iapply (cT_intro c 0); iexact Tcp_0
  isplitl [Tcp_1]; · iapply (cT_intro c 1); iexact Tcp_1
  isplitl [Tcp_2]; · iapply (cT_intro c 2); iexact Tcp_2
  isplitl [Tcp_3]; · iapply (cT_intro c 3); iexact Tcp_3
  iapply (cT_intro c 4); iexact Tcp_4

end Cert.Fused

end
-- ==== Proof.Parts.lean ====
/- The arrays and the landing buffer block by block: how the launch cuts them for the body, how they are put together
   again after it, and what the blocks held at the end tell of the memory. -/
module

public import proofs.«01_k».proof.Proof.Body

@[expose] public section

set_option maxRecDepth 16384

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Rectangles -/

/-- Different slots have no element in common. -/
theorem slot_disj (s s' : Fin 3) (h : s ≠ s') : Disjoint (slotR s).set (slotR s').set :=
  Rect.disjoint_of_separated _ _ 0 (by
    have : s.val ≠ s'.val := fun h' => h (Fin.ext h')
    show ((1 : ℕ) = 0 ∨ s.val + 1 * (1 - 1) < s'.val) ∨ (1 : ℕ) = 0 ∨ s'.val + 1 * (1 - 1) < s.val
    omega)
/-- The three slots are all of the landing buffer. -/
theorem slot_cover : (Finset.univ : Finset (Fin 3)).biUnion (fun s => (slotR s).set) = Finset.univ := by
  ext i
  refine ⟨fun _ => Finset.mem_univ _, fun _ => Finset.mem_biUnion.mpr ⟨⟨(i 0).val, (i 0).isLt⟩, Finset.mem_univ _, Rect.mem_set_unit.mpr fun a => ?_⟩⟩
  have h1 : (i 1).val < 512 := (i 1).isLt
  have h2 : (i 2).val < 4096 := (i 2).isLt
  fin_cases a
  · show (i 0).val ≤ (i 0).val ∧ (i 0).val < (i 0).val + 1; omega
  · show 0 ≤ (i 1).val ∧ (i 1).val < 0 + 512; omega
  · show 0 ≤ (i 2).val ∧ (i 2).val < 0 + 4096; omega

/-- The elements of a slot, as those of its rectangle. -/
theorem slM_set' (s : Fin 3) : (slM s).view.set = (slotR s).set.map (View.whole cc0_scratch0 : View sig .tc _ _ _).emb :=
  (View.set_reshape (v := ((Memref.whole cc0_scratch0 : Memref sig .tc .vmem S3x512x4096 .f32).slice (slotR s) (fun _ => rfl)).view) _).trans (View.set_slice _ (slotR s))
/-- Different slots of the buffer have no element in common. -/
theorem slM_disj (s s' : Fin 3) (h : s ≠ s') : Disjoint (slM s).view.set (slM s').view.set := by
  rw [slM_set', slM_set']; exact (Finset.disjoint_map _).mpr (slot_disj s s' h)
/-- The elements of a slot. -/
abbrev slSet (s : Fin 3) : Finset S3x512x4096.Idx := (slM s).view.set
/-- The three slots of the buffer are all of it. -/
theorem slM_cover : (Finset.univ : Finset (Fin 3)).biUnion slSet = Finset.univ := by
  ext i
  refine ⟨fun _ => Finset.mem_univ _, fun _ => ?_⟩
  have h := slot_cover.symm ▸ Finset.mem_univ i
  obtain ⟨s, -, hs⟩ := Finset.mem_biUnion.mp h
  exact Finset.mem_biUnion.mpr ⟨s, Finset.mem_univ _, (Finset.ext_iff.mp (slM_set' s) i).mpr (Finset.mem_map.mpr ⟨i, hs, rfl⟩)⟩
/-- Different blocks of the result have no element in common. -/
theorem oM_disj (q q' : Fin 8) (h : q ≠ q') : Disjoint (oM q).view.set (oM q').view.set :=
  View.disjoint_slice_of_sep (Memref.whole main_v1 : Memref sig .tc .hbm S4096x4096 .f32).view (rowR q) (rowR q') 0 rfl rfl (by
    have : q.val ≠ q'.val := fun h' => h (Fin.ext h')
    show 512 * q.val + 512 ≤ 512 * q'.val ∨ 512 * q'.val + 512 ≤ 512 * q.val
    omega)

/-! ## The landing buffer, slot by slot -/

/-- The landing buffer is its three slots, -/
theorem slots_split (c : Dev nD) (f : Buf (Elt F) ((c : Thread nD τ).loc cc0_scratch0)) :
    (((c : Thread nD τ).loc cc0_scratch0) ↦{fullShare} f : sProp 𝕄) ⊢ bigSep Finset.univ fun s : Fin 3 => slAny c s := by
  have h := pointsTo_biUnion (Ix := Unit) (Name := ℕ) (U := UU) (Lvl := ℕ) (Val := Elt F) (ℓ := (c : Thread nD τ).loc cc0_scratch0) (q := fullShare) (f := f)
    (Finset.univ : Finset (Fin 3)) (fun s => (slM s).view.set) (fun s _ s' _ h => slM_disj s s' h)
  have h' : (((c : Thread nD τ).loc cc0_scratch0) ↦{fullShare} f : sProp 𝕄) = (((c : Thread nD τ).loc cc0_scratch0) ↦[Finset.univ.biUnion slSet]{fullShare} f) := by
    rw [slM_cover]
  exact (Entails.of_eq (h'.trans h)).trans (bigSep_mono fun s _ => by
    unfold slAny
    exact (owns_intro (c : Thread nD τ) (slM s) fullShare f).trans (by iintro H; iexists _; iexact H))

/-- and they are the landing buffer again. -/
theorem slots_join (c : Dev nD) :
    (bigSep Finset.univ fun s : Fin 3 => (slAny c s : sProp 𝕄))
      ⊢ iprop(∃ f : Buf (Elt F) ((c : Thread nD τ).loc cc0_scratch0), ((c : Thread nD τ).loc cc0_scratch0) ↦{fullShare} f) := by
  have h1 (s : Fin 3) : (slAny c s : sProp 𝕄) ⊢ iprop(∃ f : Buf (Elt F) ((c : Thread nD τ).loc cc0_scratch0), ((c : Thread nD τ).loc cc0_scratch0) ↦[(slM s).view.set]{fullShare} f) := by
    unfold slAny owns
    iintro ⟨%X, %f, -, H⟩
    iexists f; iexact H
  refine (bigSep_mono fun s _ => h1 s).trans ?_
  refine (BI.bigSep_exists_pi Finset.univ (fun (s : Fin 3) (f : Buf (Elt F) ((c : Thread nD τ).loc cc0_scratch0)) =>
    (((c : Thread nD τ).loc cc0_scratch0) ↦[(slM s).view.set]{fullShare} f : sProp 𝕄))).trans ?_
  iintro ⟨%fs, H⟩
  ihave H := (pointsTo_biUnion_join (Ix := Unit) (Name := ℕ) (U := UU) (Lvl := ℕ) (Val := Elt F) (ℓ := (c : Thread nD τ).loc cc0_scratch0) (q := fullShare)
    (Finset.univ : Finset (Fin 3)) (fun s => (slM s).view.set) fs (fs 0) (fun s _ s' _ h => slM_disj s s' h)) $$ H
  icases H with ⟨%g, -, H⟩
  iexists g
  ihave H := (Entails.of_eq (congrArg (fun S => (((c : Thread nD τ).loc cc0_scratch0) ↦[S]{fullShare} g : sProp 𝕄)) slM_cover)) $$ H
  iexact H

/-! ## The result, block by block -/

/-- The block of the result that comes `p.2`-th of the device's own half, or of the partner's. -/
def ob (c : Dev nD) (p : Bool × Fin 4) : Fin 8 := if p.1 then blk c (zxk p.2) else blk (pt c) (zxk p.2)
/-- No block is named twice, -/
theorem ob_inj (c : Dev nD) : ∀ p p', ob c p = ob c p' → p = p' := by revert c; decide +kernel
/-- and every block is named. -/
theorem ob_surj (c : Dev nD) : ∀ q, ∃ p, ob c p = q := by revert c; decide +kernel

/-- The result's buffer is its eight blocks. -/
theorem out_split (c : Dev nD) (f : Buf (Elt F) ((c : Thread nD τ).loc main_v1)) :
    (((c : Thread nD τ).loc main_v1) ↦{fullShare} f : sProp 𝕄) ⊢ outAny c := by
  have h := pointsTo_biUnion (Ix := Unit) (Name := ℕ) (U := UU) (Lvl := ℕ) (Val := Elt F) (ℓ := (c : Thread nD τ).loc main_v1) (q := fullShare) (f := f)
    (Finset.univ : Finset (Bool × Fin 4)) (fun p => (oM (ob c p)).view.set) (fun p _ p' _ h => oM_disj _ _ fun e => h (ob_inj c p p' e))
  have hq (q : Fin 8) : (((c : Thread nD τ).loc main_v1) ↦[(oM q).view.set]{fullShare} f : sProp 𝕄) ⊢ oAny c q := by
    unfold oAny
    exact (owns_intro (c : Thread nD τ) (oM q) fullShare f).trans (by iintro H; iexists _; iexact H)
  refine ((pointsTo_split_subset (Finset.subset_univ _)).1.trans (sep_mono (Entails.of_eq h) .rfl)).trans ?_
  refine (sep_mono (bigSep_mono fun p _ => hq (ob c p)) .rfl).trans ?_
  rw [bigSep_univ_prod, show (Finset.univ : Finset Bool) = {true, false} from rfl, bigSep_insert (by decide), bigSep_singleton]
  unfold outAny
  refine (sep_mono (show _ ⊢ iprop((bigSep Finset.univ fun j : Fin 4 => oAny (F := F) c (blk c (zxk j))) ∗ bigSep Finset.univ fun j : Fin 4 => oAny (F := F) c (blk (pt c) (zxk j))) from .rfl) .rfl).trans ?_
  iintro ⟨⟨H1, H2⟩, -⟩
  isplitl [H1]
  · iexact H1
  iexact H2

/-! ## The operands' blocks, at shares -/

/-- A buffer held at a share: one memref of it at half the share, the whole of it at the other half. -/
theorem take {sp : Space} {sh : Shape} {e : EltTy} (c : Dev nD) (M : Memref sig .tc sp sh e) (q : PosShare TreeShare) (f : M.view.ty.Contents (Elt F)) :
    (M.view.loc (c : Thread nD τ) ↦{q} f : sProp 𝕄)
      ⊢ iprop((M.view.loc (c : Thread nD τ) ↦{q.left} f) ∗ owns (c : Thread nD τ) M q.right (M.view.read (Elt F) f)) := by
  iintro H
  ihave H := (pointsTo_share (PosShare.mem_left_op_right q)).1 $$ H
  icases H with ⟨H1, H2⟩
  isplitl [H1]; · iexact H1
  ihave H := (pointsTo_split_subset (Finset.subset_univ M.view.set)).1 $$ H2
  icases H with ⟨H2, -⟩
  iapply (owns_intro (c : Thread nD τ) M q.right f); iexact H2

/-- A share of the partial sums gives a share of one block. -/
theorem take_p (c : Dev nD) (k : Fin 4) (q : PosShare TreeShare) :
    (((c : Thread nD τ).loc main_arg0) ↦{q} m ((c : Thread nD τ).loc main_arg0) : sProp 𝕄)
      ⊢ iprop((((c : Thread nD τ).loc main_arg0) ↦{q.left} m ((c : Thread nD τ).loc main_arg0)) ∗ srcP m ρ c k) :=
  (take c (pM (blk c k)) q (m ((c : Thread nD τ).loc main_arg0))).trans (sep_mono .rfl (by
    unfold srcP
    iintro H; iexists q.right; iexact H))
/-- A share of the residual gives a share of the block that the device normalises. -/
theorem take_r (c : Dev nD) (q : PosShare TreeShare) :
    (((c : Thread nD τ).loc main_arg1) ↦{q} m ((c : Thread nD τ).loc main_arg1) : sProp 𝕄)
      ⊢ iprop((((c : Thread nD τ).loc main_arg1) ↦{q.left} m ((c : Thread nD τ).loc main_arg1)) ∗ srcR m ρ c) :=
  (take c (rM (blk c 1)) q (m ((c : Thread nD τ).loc main_arg1))).trans (sep_mono .rfl (by
    unfold srcR
    iintro H; iexists q.right; iexact H))

/-- What is kept of the two operands for the end. -/
def kept (c : Dev nD) : sProp 𝕄 :=
  iprop((∃ q, ((c : Thread nD τ).loc main_arg0) ↦{q} m ((c : Thread nD τ).loc main_arg0)) ∗ ∃ q, ((c : Thread nD τ).loc main_arg1) ↦{q} m ((c : Thread nD τ).loc main_arg1))

/-- The operands give the shares that the copies read, and a share of each is kept. -/
theorem srcs_split (c : Dev nD) :
    iprop((((c : Thread nD τ).loc main_arg0) ↦{fullShare} m ((c : Thread nD τ).loc main_arg0)) ∗ (((c : Thread nD τ).loc main_arg1) ↦{fullShare} m ((c : Thread nD τ).loc main_arg1)))
      ⊢ (iprop(srcs m ρ c ∗ kept m c) : sProp 𝕄) := by
  unfold srcs kept
  rw [bigSep_four]
  iintro ⟨H, HR⟩
  ihave H := (take_p m ρ c 0 _) $$ H
  icases H with ⟨H, H0⟩
  ihave H := (take_p m ρ c 1 _) $$ H
  icases H with ⟨H, H1⟩
  ihave H := (take_p m ρ c 2 _) $$ H
  icases H with ⟨H, H2⟩
  ihave H := (take_p m ρ c 3 _) $$ H
  icases H with ⟨H, H3⟩
  ihave HR := (take_r m ρ c _) $$ HR
  icases HR with ⟨HR, HR1⟩
  isplitl [H0 H1 H2 H3 HR1]
  · isplitr [HR1]
    · isplitl [H0]; · iexact H0
      isplitl [H1]; · iexact H1
      isplitl [H2]; · iexact H2
      iexact H3
    iexact HR1
  isplitl [H]
  · iexists _; iexact H
  iexists _; iexact HR

/-! ## Reading at the end -/

/-- The shares kept say at the end that the operands are as they were. -/
theorem read_kept (c : Dev nD) (s' : Phys nD τ sig (Elt F)) :
    iprop(kept m c ∗ SI s') ⊢ (iprop(⌜s'.mem.mem ((c : Thread nD τ).loc main_arg0) = m ((c : Thread nD τ).loc main_arg0)
      ∧ s'.mem.mem ((c : Thread nD τ).loc main_arg1) = m ((c : Thread nD τ).loc main_arg1)⌝ ∗ SI s') : sProp 𝕄) := by
  unfold kept
  iintro ⟨⟨⟨%q, H⟩, ⟨%q', H'⟩⟩, HSI⟩
  icombine HSI H gives %h
  icombine HSI H' gives %h'
  isplitr
  · ipureintro; exact ⟨Buf.eq_of_forall_mem_univ h, Buf.eq_of_forall_mem_univ h'⟩
  iexact HSI

/-- A share of a finished block says at the end what it holds. -/
theorem read_oFin (c : Dev nD) (b : Fin 8) (q : PosShare TreeShare) (s' : Phys nD τ sig (Elt F)) :
    iprop(oFin m ρ c b q ∗ SI s') ⊢ (iprop(⌜(oM b).view.read (Elt F) (s'.mem.mem ((c : Thread nD τ).loc main_v1)) = nb m ρ (ow c b)⌝ ∗ SI s') : sProp 𝕄) := by
  unfold oFin owns
  iintro ⟨⟨%f, %hf, H⟩, HSI⟩
  icombine HSI H gives %h
  isplitr
  · ipureintro; exact (View.read_congr (v := (oM b).view) (fun i hi => h i hi)).trans hf
  iexact HSI

/-- A family, each member of which tells a fact of the memory, tells them all. -/
theorem read_all {J : Type} [DecidableEq J] (S : Finset J) (Φ : J → sProp 𝕄) (P : J → Prop) (s' : Phys nD τ sig (Elt F))
    (h : ∀ j, iprop(Φ j ∗ SI s') ⊢ (iprop(⌜P j⌝ ∗ SI s') : sProp 𝕄)) :
    iprop(bigSep S Φ ∗ SI s') ⊢ (iprop(⌜∀ j ∈ S, P j⌝ ∗ SI s') : sProp 𝕄) := by
  induction S using Finset.induction_on with
  | empty =>
    iintro ⟨-, HSI⟩
    isplitr; · ipureintro; intro j hj; exact absurd hj (Finset.notMem_empty j)
    iexact HSI
  | insert j S hj ih =>
    rw [bigSep_insert hj]
    refine (sep_mono (show _ ⊢ iprop(Φ j ∗ bigSep S Φ) from .rfl) .rfl).trans ?_
    iintro ⟨⟨Hj, HS⟩, HSI⟩
    ihave H := (h j) $$ [Hj HSI]
    · isplitl [Hj] <;> iassumption
    icases H with ⟨%h1, HSI⟩
    ihave H := ih $$ [HS HSI]
    · isplitl [HS] <;> iassumption
    icases H with ⟨%h2, HSI⟩
    isplitr
    · ipureintro; intro i hi
      rcases Finset.mem_insert.mp hi with rfl | hi
      exacts [h1, h2 i hi]
    iexact HSI

/-- The eight finished blocks say at the end what the result's buffer holds. -/
theorem read_out (c : Dev nD) (s' : Phys nD τ sig (Elt F)) :
    iprop(outFin m ρ c ∗ SI s')
      ⊢ (iprop(⌜∀ b : Fin 8, (oM b).view.read (Elt F) (s'.mem.mem ((c : Thread nD τ).loc main_v1)) = nb m ρ (ow c b)⌝ ∗ SI s') : sProp 𝕄) := by
  unfold outFin
  iintro ⟨⟨H1, H2⟩, HSI⟩
  ihave H := (read_all Finset.univ _ _ s' fun j => read_oFin m ρ c (blk c (zxk j)) fullShare.left s') $$ [H1 HSI]
  · isplitl [H1] <;> iassumption
  icases H with ⟨%h1, HSI⟩
  ihave H := (read_all Finset.univ _ _ s' fun j => read_oFin m ρ c (blk (pt c) (zxk j)) fullShare s') $$ [H2 HSI]
  · isplitl [H2] <;> iassumption
  icases H with ⟨%h2, HSI⟩
  isplitr
  · ipureintro; intro b
    obtain ⟨⟨_ | _, j⟩, rfl⟩ := ob_surj c b
    · exact h2 j (Finset.mem_univ j)
    · exact h1 j (Finset.mem_univ j)
  iexact HSI

end Cert.Fused

end
-- ==== Proof.Launch.lean ====
/- The launch: the pipeline's data, the body's obligation out of the body's own theorem, what each device is given and
   hands back, and the run of the whole program. -/
module

public import proofs.«01_k».proof.Proof.Deal
public import proofs.«01_k».proof.Proof.Parts
public import proofs.«01_k».proof.Proof.Gen.KernelIdeal.Points
public import Idealize.ShloMosaic.Lib.Pipeline.CollectiveSegs
public import Idealize.ShloMosaic.Lib.Quiescent

@[expose] public section

set_option maxRecDepth 16384

noncomputable section

namespace Cert.Fused

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Pipeline (Dat BodyObligation)

/-! ## The semaphores handed back -/

/-- The cells' counters at zero are the semaphores handed back at zero. -/
theorem zeros_sems (c : Dev nD) :
    (zeros c : sProp 𝕄) ⊢ iprop(unscopedSems0 c ∗ Pipeline.ownSems0 (Ix := Unit) (Name := ℕ) (U := UU) (Lvl := ℕ) (Val := Elt F) (τ := τ) osem c) := by
  rw [sems_eq, bigSep_univ_eq_bigSepL allK univ_allK allK_nodup]
  refine BIBase.Entails.trans ?_ (show (iprop(Z c .bar ∗ Z c (.rsS 0) ∗ Z c (.rsS 1) ∗ Z c (.rsS 2) ∗ Z c (.rsR 0) ∗ Z c (.rsR 1) ∗ Z c (.rsR 2) ∗ Z c (.agS 0) ∗ Z c (.agS 1) ∗ Z c (.agS 2) ∗ Z c (.agR 0) ∗ Z c (.agR 1) ∗ Z c (.agR 2) ∗ Z c (.zxS 0) ∗ Z c (.zxS 1) ∗ Z c (.zxS 2) ∗ Z c (.zxS 3) ∗ Z c (.zxR 0) ∗ Z c (.zxR 1) ∗ Z c (.zxR 2) ∗ Z c (.zxR 3) ∗ Z c .cp) : sProp 𝕄) ⊢ _ from .rfl)
  unfold zeros
  rw [bigSep_three, bigSep_four]
  iintro ⟨Zbar, ⟨⟨ZrsS0, ZrsR0, ZagS0, ZagR0⟩, ⟨ZrsS1, ZrsR1, ZagS1, ZagR1⟩, ⟨ZrsS2, ZrsR2, ZagS2, ZagR2⟩⟩, ⟨⟨ZzxS0, ZzxR0⟩, ⟨ZzxS1, ZzxR1⟩, ⟨ZzxS2, ZzxR2⟩, ⟨ZzxS3, ZzxR3⟩⟩, Zcp⟩
  isplitl [Zbar]; · iexact Zbar
  isplitl [ZrsS0]; · iexact ZrsS0
  isplitl [ZrsS1]; · iexact ZrsS1
  isplitl [ZrsS2]; · iexact ZrsS2
  isplitl [ZrsR0]; · iexact ZrsR0
  isplitl [ZrsR1]; · iexact ZrsR1
  isplitl [ZrsR2]; · iexact ZrsR2
  isplitl [ZagS0]; · iexact ZagS0
  isplitl [ZagS1]; · iexact ZagS1
  isplitl [ZagS2]; · iexact ZagS2
  isplitl [ZagR0]; · iexact ZagR0
  isplitl [ZagR1]; · iexact ZagR1
  isplitl [ZagR2]; · iexact ZagR2
  isplitl [ZzxS0]; · iexact ZzxS0
  isplitl [ZzxS1]; · iexact ZzxS1
  isplitl [ZzxS2]; · iexact ZzxS2
  isplitl [ZzxS3]; · iexact ZzxS3
  isplitl [ZzxR0]; · iexact ZzxR0
  isplitl [ZzxR1]; · iexact ZzxR1
  isplitl [ZzxR2]; · iexact ZzxR2
  isplitl [ZzxR3]; · iexact ZzxR3
  iexact Zcp

/-! ## The pipeline's data -/

/-- What the body starts from, beside the scratch buffers. -/
def start (c : Dev nD) : sProp 𝕄 := iprop((∃ K, recs m ρ K) ∗ ghost c ∗ srcs m ρ c ∗ outAny c)
/-- What the body leaves, beside the scratch buffers and its semaphores. -/
def left (c : Dev nD) : sProp 𝕄 := iprop(unscopedSems0 c ∗ outFin m ρ c)

/-- The call's one step: its window is the staged scale, its assertion what the body takes before and leaves after, and
    what the device owes then. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => gm m ρ c
    | ⟨_ + 1, h⟩ => absurd h (Nat.not_lt.2 (Nat.le_add_left _ _))
  Φ t := match t with
    | ⟨0, _⟩ => iprop(start m ρ c ∗ scr c)
    | ⟨_ + 1, _⟩ => iprop(zeros c ∗ scr c ∗ outFin m ρ c)
  q _ := fullShare
  owed t := match t with
    | ⟨0, _⟩ => owe c dues
    | ⟨_ + 1, _⟩ => 0

/-- The staging buffer of the scale, holding `X`. -/
abbrev stg (c : Dev nD) (X : Vec F S4096 .f32) : sProp 𝕄 :=
  iprop(∃ f : Buf (Elt F) ((c : Thread nD τ).loc cc0_stg0_0), ⌜f = X⌝ ∗ (((c : Thread nD τ).loc cc0_stg0_0) ↦{fullShare} f))

/-- The body takes the assertion before the step to the one after it. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show iprop((start m ρ c ∗ scr c) ∗ (dats m ρ 0 c).owesAt () t0_0.castSucc ∗ (∃ d, stg c ((dats m ρ 0 c).before (0 : Fin 1) t0_0 d)))
    ⊢ wpc c (cc0_body (F := F) (Memref.whole main_arg0) (Memref.isWhole_whole _) (Memref.whole main_arg1) (Memref.isWhole_whole _) (Memref.whole cc0_stg0_0) (hstage0_0 0)
        (Memref.whole main_v1) (Memref.isWhole_whole _) (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6 cc0_scratch7 cc0_scratch8 cc0_scratch9)
      (fun _ => iprop((zeros c ∗ scr c ∗ outFin m ρ c) ∗ (dats m ρ 0 c).owesAt () t0_0.succ ∗ stg c (gm m ρ c)))
  unfold start Dat.owesAt Pipeline.owesWithin
  iintro ⟨⟨⟨⟨%K, #HR⟩, Hg, Hs, Ho⟩, Hscr⟩, ⟨%W, %hW, HO⟩, ⟨%d, %g, %hg, Hx⟩⟩
  have hx : g = gm m ρ c := by rw [hg]; unfold Dat.before; rw [if_pos (fetch0_0 t0_0)]; rfl
  subst hx
  iapply (body_wp m ρ K (c := c) (q := fullShare)) $$ [HO Hg Hs Ho Hscr Hx]
  · isplitr; · iexact HR
    isplitl [HO]
    · unfold OW; iexists W
      ihave HO := (show owes (c : Thread nD τ) ((dats m ρ 0 c).owed t0_0.castSucc) W ⊢ owes (c : Thread nD τ) (owe c du0) W from .rfl) $$ HO
      iexact HO
    isplitl [Hg]; · iexact Hg
    isplitl [Hscr]; · iexact Hscr
    isplitl [Hs]; · iexact Hs
    isplitl [Ho]; · iexact Ho
    iapply (Entails.of_eq (owns_whole (c : Thread nD τ) cc0_stg0_0 fullShare (gm m ρ c)).symm); iexact Hx
  iintro ⟨HO, Hz, Hscr, Hf, Hx⟩
  isplitl [Hz Hscr Hf]
  · isplitl [Hz]; · iexact Hz
    isplitl [Hscr] <;> iassumption
  isplitl [HO]
  · unfold OW
    icases HO with ⟨%W', HO⟩
    iexists W'
    isplitr; · ipureintro; exact fun _ _ => Or.inl trivial
    ihave HO := (show owes (c : Thread nD τ) (owe c []) W' ⊢ owes (c : Thread nD τ) ((dats m ρ 0 c).owed t0_0.succ) W' from .rfl) $$ HO
    iexact HO
  iexists _; isplitr; · (ipureintro; rfl)
  iapply (Entails.of_eq (owns_whole (c : Thread nD τ) cc0_stg0_0 fullShare (gm m ρ c))); iexact Hx

/-! ## The launch's side conditions -/

/-- The window is held whole. -/
theorem share_eq (c : Dev nD) (w : Fin cfg0.W) : (dats m ρ 0 c).share w = fullShare := by unfold Dat.share; split <;> rfl

/-- What the launch deals to a device is what its body starts from, with a share of its operands kept back. -/
theorem start_intro (c : Dev nD) :
    iprop(Pipeline.unscopedRestP Pipeline.Prefetch.none cfg0.spec c (fun b => m ((c : Thread nD τ).loc b)) ∗ levAts L lv
        ∗ Pipeline.launchCred (fun d => owe d dues) c ∗ prngReg c (ρ c) ∗ G' m ρ c)
      ⊢ |={Set.univ}=> iprop(start m ρ c ∗ kept m c) := by
  rw [Pipeline.unscopedRestP_none, unscopedRest0_eq]
  unfold start G'
  iintro ⟨⟨H0, H1, Hv⟩, #Hlev, Hcr, -, ⟨%K, #HR, HP, HT⟩⟩
  ihave HC := (creds (F := F) c) $$ Hcr
  ihave Hs := (srcs_split m ρ c) $$ [H0 H1]
  · isplitl [H0] <;> iassumption
  icases Hs with ⟨Hs, Hk⟩
  ihave Ho := (out_split (F := F) c _) $$ Hv
  unfold recsI
  icases HR with ⟨HI, Hr⟩
  imodintro
  isplitr [Hk]
  · isplitr
    · iexists K; unfold recs
      isplitr; · iexact HI
      isplitr; · iexact Hr
      iexact Hlev
    isplitl [HP HT HC]
    · iapply (ghost_intro (F := F) c)
      isplitl [HP]; · iexact HP
      isplitl [HT]; · iexact HT
      isplitl [HC]; · iexact HC
      iapply (show (bigSep Finset.univ fun p : Dev nD × Kd => (reached ER (cell p.1 p.2) 0 : sProp 𝕄)) ⊢ reached ER (cell c .cp) 0 from
        bigSep_elim (Finset.mem_univ ((c, .cp) : Dev nD × Kd)))
      iexact Hr
    isplitl [Hs]; · iexact Hs
    iexact Ho
  iexact Hk

/-- Entering the call: the scratch buffers join what the body starts from. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ scr c) from rfl, scopedRest0_eq]
  unfold scr accAny tmpAny
  iintro ⟨Hs, -, ⟨%f, H0⟩, ⟨%g, H1⟩, ⟨%h, H2⟩⟩
  isplitl [Hs]; · iexact Hs
  isplitl [H0]; · iapply (slots_split (F := F) c f); iexact H0
  isplitl [H1]
  · iexists g; iapply (Entails.of_eq (owns_whole (c : Thread nD τ) cc0_scratch1 fullShare g).symm); iexact H1
  · iexists h; iapply (Entails.of_eq (owns_whole (c : Thread nD τ) cc0_scratch2 fullShare h).symm); iexact H2

/-- Leaving the call: the semaphores and the scratch buffers are handed back. -/
theorem phi1_exit (c : Dev nD) :
    (dats m ρ 0 c).Φ (Fin.last cfg0.N) ⊢ iprop(left m ρ c ∗ Pipeline.ownSems0 osem c ∗ Pipeline.scopedRest cfg0.spec c) := by
  rw [show (dats m ρ 0 c).Φ (Fin.last cfg0.N) = iprop(zeros c ∗ scr c ∗ outFin m ρ c) from rfl, scopedRest0_eq]
  unfold scr accAny tmpAny left
  iintro ⟨Hz, ⟨H0, ⟨%g, H1⟩, ⟨%h, H2⟩⟩, Hf⟩
  ihave Hz := (zeros_sems (F := F) c) $$ Hz
  icases Hz with ⟨Hu, Hw⟩
  isplitl [Hu Hf]
  · isplitl [Hu] <;> iassumption
  isplitl [Hw]; · iexact Hw
  isplitl [H0]; · iapply (slots_join (F := F) c); iexact H0
  isplitl [H1]
  · iexists g; iapply (Entails.of_eq (owns_whole (c : Thread nD τ) cc0_scratch1 fullShare g)); iexact H1
  · iexists h; iapply (Entails.of_eq (owns_whole (c : Thread nD τ) cc0_scratch2 fullShare h)); iexact H2

/-- Every payment to another device is above the lowest level. -/
theorem dues_lvl : ∀ p ∈ dues, 0 < lvl p.1 := by decide

/-- The staging buffer's semaphore is of the lowest level. -/
theorem lv_stage (c : Dev nD) : lv ((c : Thread nD τ), SemLoc.dma ((win0_0.sem) 0)) () ≤ 0 := by
  show (match kd? (SemLoc.dma ((win0_0.sem) 0)) with | some k => lvl k | none => 0) ≤ 0
  decide

/-- The pipeline's own waits are allowed whatever the device still owes. -/
theorem waits (c : Dev nD) : (levAts L lv : sProp 𝕄) ⊢ Pipeline.cellsWaits cfgs (dats m ρ) () 0 c :=
  Pipeline.cellsWaits_intro cfgs (dats m ρ) () 0 c fun w s t => by
    fin_cases w; fin_cases s
    rcases t with ⟨_ | _, ht⟩
    · exact mayWait_owe c _ 0 (lv_stage c) dues dues_lvl
    · exact mayWait_owe c _ 0 (lv_stage c) [] (fun p hp => absurd hp List.not_mem_nil)

/-! ## The run -/

/-- What the run ends in: every device's operands as they were, its result's blocks at what their owners computed, every
    counter at zero. -/
def QC : PUnit × MemSt nD τ sig (Elt F) → Prop := fun r =>
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ ∀ b : Fin 8, (oM b).view.read (Elt F) (r.2.mem ((c : Thread nD τ).loc main_v1)) = nb m ρ (ow c b))
  ∧ r.2.sem = fun _ => 0

/-- For any float values and any memory with zero counters, every weakly fair execution of the program on the thirty-two
    devices terminates in a state that `QC` describes. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => owe d dues) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := left m ρ) (Z := kept m)
    (hX := start_intro m ρ) (hin := phi0_intro m ρ) (hout := phi1_exit m ρ)
    (QY := fun c s => (∀ sm : SemLoc sig, sm.isScoped .tc = false → s.sem ((c.tc : Thread nD τ), sm) = 0)
      ∧ (s.mem ((c : Thread nD τ).loc main_arg0) = m ((c : Thread nD τ).loc main_arg0) ∧ s.mem ((c : Thread nD τ).loc main_arg1) = m ((c : Thread nD τ).loc main_arg1))
      ∧ ∀ b : Fin 8, (oM b).view.read (Elt F) (s.mem ((c : Thread nD τ).loc main_v1)) = nb m ρ (ow c b))
    (hY := fun c s' => by
      unfold left
      iintro ⟨⟨Hu, Hf⟩, Hk, HSI⟩
      ihave H := (read_kept m c s') $$ [Hk HSI]
      · isplitl [Hk] <;> iassumption
      icases H with ⟨%h1, HSI⟩
      ihave H := (read_out m ρ c s') $$ [Hf HSI]
      · isplitl [Hf] <;> iassumption
      icases H with ⟨%h2, HSI⟩
      imod (Pipeline.unscopedSems0_read (X := unscopedSems0 c) (c := c) fupd_intro s') $$ [Hu HSI] with ⟨%h3, HSI⟩
      · isplitl [Hu] <;> iassumption
      imodintro
      isplitr
      · ipureintro; exact ⟨h3, h1, h2⟩
      iexact HSI)
    (hQ := fun _ h hs => ⟨fun c => ⟨(h c).2.2.2.1.1, (h c).2.2.2.1.2, ((h c).1 0).trans ((dats (F := F) m ρ 0 c).arrAt_in (0 : Fin 1) rfl _), (h c).2.2.2.2⟩,
      sem_eq_zero hs fun c => (h c).2.2.1⟩)

end Cert.Fused

end
-- ==== Proof.Value.lean ====
/- The kernel's result against the reference's, element by element: both are the same row of sums, scaled by the same
   root mean square and by the same column of the scale. -/
module

public import proofs.«01_k».proof.Proof.Launch
public import proofs.«01_k».proof.Proof.Gen.ReferenceIdeal.Run
public import Idealize.ShloMosaic.Lib.Pointwise
public import Idealize.ShloMosaic.Lib.Layout

@[expose] public section

noncomputable section

namespace Cert.Fused

open Idealize.ShloMosaic Idealize.ShloMosaic.TcCoe Idealize.SL.Sem
open Idealize.ShloMosaic.Pointwise

/-- Entry `l` of a row `y` divided by the row's root mean square, times `g`. -/
def nrm (y : Fin 4096 → EReal) (g : EReal) (l : Fin 4096) : EReal :=
  Ideal.div (y l) (Ideal.sqrt (Ideal.div (∑ x, y x * y x) (Ideal.ofBits .f32 0x45800000#32) + Ideal.ofBits .f32 0x358637BD#32)) * g

/-! ## The reference at an element -/

section Reference
open Cert.ReferenceIdeal Cert.ReferenceIdeal.Gen

/-- The reference's sum of the four partial arrays and the residual. -/
abbrev refY (x : FVec Ideal S4x4096x4096 .f32) (r : FVec Ideal S4096x4096 .f32) : FVec Ideal S4096x4096 .f32 :=
  addf (Host.reduceAdd x (constant S_ .f32 0x00000000#32) reducesTo_S4x4096x4096_S4096x4096_d0 h_S_) r

/-- The reference's result of its three arguments. -/
abbrev refOut (x : FVec Ideal S4x4096x4096 .f32) (r : FVec Ideal S4096x4096 .f32) (g : FVec Ideal S4096 .f32) :
    FVec Ideal S4096x4096 .f32 :=
  mulf (Host.divf (refY x r) (broadcastInDim S4096x4096 ![0, 1] bcast_S4096x1_S4096x4096_0_1 (Host.sqrt (addf (Host.divf
    (broadcastInDim S4096x1 ![0] bcast_S4096_S4096x1_0 (Host.reduceAdd (mulf (refY x r) (refY x r)) (constant S_ .f32 0x00000000#32) reducesTo_S4096x4096_S4096_d1 h_S_))
    (broadcastInDim S4096x1 ![] bcast_S_S4096x1 (constant S_ .f32 0x45800000#32))) (broadcastInDim S4096x1 ![] bcast_S_S4096x1 (constant S_ .f32 0x358637BD#32))))))
    (broadcastInDim S4096x4096 ![0, 1] bcast_S1x4096_S4096x4096_0_1 (broadcastInDim S1x4096 ![1] bcast_S4096_S1x4096_1 g))

/-- The sum at row `i`, column `l`. -/
theorem refY_apply (x : FVec Ideal S4x4096x4096 .f32) (r : FVec Ideal S4096x4096 .f32) (i l : Fin 4096) :
    refY x r (ix2 i l) = (∑ k : Fin 4, x (ix3 k i l)) + r (ix2 i l) := by
  pointwise [refY]

/-- The reference's result at row `i`, column `l`. -/
theorem refOut_apply (x : FVec Ideal S4x4096x4096 .f32) (r : FVec Ideal S4096x4096 .f32) (g : FVec Ideal S4096 .f32) (i l : Fin 4096) :
    refOut x r g (ix2 i l) = nrm (fun k => refY x r (ix2 i k)) (g (ix1 l)) l := by
  unfold refOut nrm
  generalize refY x r = y
  pointwise []

end Reference

/-! ## The kernel's block at an element -/

section Kernel
open Cert.KernelIdeal Cert.KernelIdeal.Gen

variable (m : (ℓ : Loc nD τ sig) → Buf (Elt Ideal) ℓ) (ρ : Dev nD → PrngReg)

/-- What a device computes of its block at row `i`, column `l`. -/
theorem pay_apply (a r : Vec Ideal S512x4096 .f32) (g : Vec Ideal S4096 .f32) (i : Fin 512) (l : Fin 4096) :
    k0_pay5 (F := Ideal) a r g (ix2 i l) = nrm (fun k => addf (F := Ideal) (φ := .f32) a r (ix2 i k)) (g (ix1 l)) l := by
  unfold nrm
  pointwise [k0_pay5]

/-- Row `i` of block `q` of an array of 4096 rows. -/
abbrev row (q : Fin 8) (i : Fin 512) : Fin 4096 := ⟨512 * q.val + i.val, by omega⟩

/-- Block `q` of the result at an element. -/
theorem oM_read (c : Dev nD) (q : Fin 8) (f : Buf (Elt Ideal) ((c : Thread nD τ).loc main_v1)) (i : Fin 512) (l : Fin 4096) :
    (oM q).view.read (Elt Ideal) f (ix2 i l) = (f : S4096x4096.Idx → EReal) (ix2 (row q i) l) := by
  refine congrArg f (funext fun b => Fin.ext ?_)
  fin_cases b
  · show 512 * q.val + 1 * i.val = _
    simp
  · show 0 + 1 * l.val = _
    simp

/-- The residual's block that a device normalises, at an element. -/
theorem rc_apply (c : Dev nD) (i : Fin 512) (l : Fin 4096) :
    rc m ρ c (ix2 i l) = (m (c.tc.loc main_arg1) : S4096x4096.Idx → EReal) (ix2 (row (blk c 1) i) l) := by
  unfold rc
  refine congrArg (m (c.tc.loc main_arg1)) (funext fun b => Fin.ext ?_)
  fin_cases b
  · show 512 * (blk c 1).val + 1 * i.val = _
    simp
  · show 0 + 1 * l.val = _
    simp

/-- The staged scale at an element. -/
theorem gm_apply (c : Dev nD) (l : Fin 4096) :
    gm m ρ c (ix1 l) = (m (c.tc.loc main_arg2) : S4096.Idx → EReal) (ix1 l) := by
  unfold gm
  refine congrArg (m (c.tc.loc main_arg2)) (funext fun b => Fin.ext ?_)
  fin_cases b
  show 0 * 4096 + 1 * l.val = _
  simp

/-- A block of a device's partial sums at an element. -/
theorem pc_apply (c : Dev nD) (k : Fin 4) (i : Fin 512) (l : Fin 4096) :
    pc m ρ c k (ix2 i l) = (m (c.tc.loc main_arg0) : S1x4096x4096.Idx → EReal) (ix3 0 (row (blk c k) i) l) := by
  unfold pc
  refine congrArg (m (c.tc.loc main_arg0)) (funext fun b => Fin.ext ?_)
  have e : ∀ (h : S512x4096.numel = S1x512x4096.numel), Shape.reshapeEquiv h (ix2 i l) = Fin.cons ⟨0, Nat.one_pos⟩ (ix2 i l) := fun h =>
    Shape.reshapeEquiv_cons_one (n := 2) (d := ![512, 4096]) h (ix2 i l)
  show ((Rect.unit (s := S1x4096x4096) ![0, 512 * (blk c k).val, 0] S1x512x4096.size (prow_inb (blk c k))).emb
    (Shape.reshapeEquiv _ (ix2 i l)) b).val = _
  rw [e]
  fin_cases b
  · rfl
  · show 512 * (blk c k).val + 1 * i.val = _
    simp
  · show 0 + 1 * l.val = _
    simp

/-! ## The four summands of a block -/

/-- A device's place on the ring of the axis `y`. -/
def yc (c : Dev nD) : Fin 4 := ⟨c.val / 4 % 4, Nat.mod_lt _ (by decide)⟩

/-- A device's part of the four partial arrays at an element: the array of its place on the ring. -/
theorem block_arg (d : Dev nD) (x : Cert.ReferenceIdeal.S4x4096x4096.Idx → EReal) (i l : Fin 4096) :
    (Layout.blockN ⟨3, ![1, 4096, 4096]⟩ ⟨3, ![4, 4096, 4096]⟩ (Layout.meshBlock [2, 4, 4] ![[1], [], []] d) x) (ix3 0 i l)
      = x (ix3 (yc d) i l) := by
  refine congrArg x (funext fun b => Fin.ext ?_)
  fin_cases b
  · show (d.val / 4 % 4 * 1 + 0) * 1 + 0 = d.val / 4 % 4
    omega
  · show 0 * 4096 + i.val = i.val
    omega
  · show 0 * 4096 + l.val = l.val
    omega

/-- The device that computes block `b` normalises block `b`, and the summands it received are block `b` of the three
    devices below it on the ring. -/
theorem blk_chain : ∀ (c : Dev nD) (b : Fin 8), blk (ow c b) 1 = b ∧ blk (lf (ow c b)) 2 = b ∧ blk (lf (lf (ow c b))) 3 = b
    ∧ blk (lf (lf (lf (ow c b)))) 0 = b := by decide +kernel

/-- The places of a device and of the three below it on the ring. -/
theorem yc_chain : ∀ d : Dev nD, yc (lf d) = yc d + 3 ∧ yc (lf (lf d)) = yc d + 2 ∧ yc (lf (lf (lf d))) = yc d + 1 := by decide +kernel

/-- A sum taken around the ring from any place is the sum over the ring. -/
theorem sum_ring (f : Fin 4 → EReal) (y : Fin 4) : f (y + 1) + f (y + 2) + f (y + 3) + f y = ∑ k, f k := by
  rw [Fin.sum_univ_four]
  fin_cases y
  · show f 1 + f 2 + f 3 + f 0 = _; abel
  · show f 2 + f 3 + f 0 + f 1 = _; abel
  · show f 3 + f 0 + f 1 + f 2 = _; abel
  · rfl

/-- The running sum after three rounds at an element: the sum over the ring of the block's summands. -/
theorem acc_apply (x : Cert.ReferenceIdeal.S4x4096x4096.Idx → EReal)
    (hx : ∀ (c : Dev nD) (i l : Fin 4096), (m (c.tc.loc main_arg0) : S1x4096x4096.Idx → EReal) (ix3 0 i l) = x (ix3 (yc c) i l))
    (c : Dev nD) (b : Fin 8) (i : Fin 512) (l : Fin 4096) :
    acc m ρ 3 (ow c b) (ix2 i l) = ∑ k : Fin 4, x (ix3 k (row b i) l) := by
  obtain ⟨h1, h2, h3, h0⟩ := blk_chain c b
  obtain ⟨y1, y2, y3⟩ := yc_chain (ow c b)
  show pc m ρ (lf (lf (lf (ow c b)))) 0 (ix2 i l) + pc m ρ (lf (lf (ow c b))) 3 (ix2 i l) + pc m ρ (lf (ow c b)) 2 (ix2 i l)
    + pc m ρ (ow c b) 1 (ix2 i l) = _
  rw [pc_apply, pc_apply, pc_apply, pc_apply, h1, h2, h3, h0, hx, hx, hx, hx, y1, y2, y3]
  exact sum_ring (fun k => x (ix3 k (row b i) l)) (yc (ow c b))

/-- The block that the device which computes block `b` ends with is block `b` of the reference's result. -/
theorem nb_apply (x : Cert.ReferenceIdeal.S4x4096x4096.Idx → EReal) (r : S4096x4096.Idx → EReal) (g : S4096.Idx → EReal)
    (hx : ∀ (c : Dev nD) (i l : Fin 4096), (m (c.tc.loc main_arg0) : S1x4096x4096.Idx → EReal) (ix3 0 i l) = x (ix3 (yc c) i l))
    (hr : ∀ c : Dev nD, (m (c.tc.loc main_arg1) : S4096x4096.Idx → EReal) = r)
    (hg : ∀ c : Dev nD, (m (c.tc.loc main_arg2) : S4096.Idx → EReal) = g)
    (c : Dev nD) (b : Fin 8) (i : Fin 512) (l : Fin 4096) :
    nb m ρ (ow c b) (ix2 i l) = refOut x r g (ix2 (row b i) l) := by
  unfold nb
  rw [pay_apply, refOut_apply, gm_apply, hg]
  refine congrArg (fun y => nrm y (g (ix1 l)) l) (funext fun k => ?_)
  rw [refY_apply]
  show acc m ρ 3 (ow c b) (ix2 i k) + rc m ρ (ow c b) (ix2 i k) = _
  rw [acc_apply m ρ x hx, rc_apply, hr, (blk_chain c b).1]

/-- A result buffer whose eight blocks are the blocks that were computed is the reference's result. -/
theorem out_eq (x : Cert.ReferenceIdeal.S4x4096x4096.Idx → EReal) (r : S4096x4096.Idx → EReal) (g : S4096.Idx → EReal)
    (hx : ∀ (c : Dev nD) (i l : Fin 4096), (m (c.tc.loc main_arg0) : S1x4096x4096.Idx → EReal) (ix3 0 i l) = x (ix3 (yc c) i l))
    (hr : ∀ c : Dev nD, (m (c.tc.loc main_arg1) : S4096x4096.Idx → EReal) = r)
    (hg : ∀ c : Dev nD, (m (c.tc.loc main_arg2) : S4096.Idx → EReal) = g)
    (c : Dev nD) (f : Buf (Elt Ideal) ((c : Thread nD τ).loc main_v1))
    (hf : ∀ b : Fin 8, (oM b).view.read (Elt Ideal) f = nb m ρ (ow c b)) :
    (f : S4096x4096.Idx → EReal) = refOut x r g := by
  refine funext fun (j : S4096x4096.Idx) => ?_
  obtain ⟨a, l, rfl⟩ : ∃ a l : Fin 4096, j = ix2 a l := ⟨j 0, j 1, eq_ix2 j⟩
  have ea : a = row ⟨a.val / 512, by have := a.isLt; omega⟩ ⟨a.val % 512, Nat.mod_lt _ (by decide)⟩ :=
    Fin.ext (by show a.val = 512 * (a.val / 512) + a.val % 512; omega)
  rw [ea, ← nb_apply m ρ x r g hx hr hg c, ← hf]
  exact (oM_read c _ f _ l).symm

end Kernel

end Cert.Fused

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The run of the kernel, at any float values: it ends with its arguments and every semaphore as they were. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => ⟨(h.1 c).1, (h.1 c).2.1, (h.1 c).2.2.1⟩, h.2⟩)
    (Cert.Fused.run_main (F := F) m ρ)

/-- The two printed programs are the same text: their kernels' tables agree, label by label, -/
theorem defs₀_same : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Λ := Cert.Kernel.Λ₀))
    (funext fun ℓ => funext fun x => ?_)
  match ℓ, x with
  | ⟨0, _⟩, (t, s) => rfl
  | ⟨n + 1, h⟩, _ => exact absurd h (Nat.not_lt.2 (Nat.le_add_left _ _))

/-- and so do the whole programs' tables. -/
theorem defs_same : Cert.Kernel.defs (F := Bits) = Cert.KernelIdeal.defs (F := Bits) :=
  congrArg (Pipeline.defs (Cert.Kernel.pcfgs (F := Bits))) defs₀_same

/-- The kernel at bit patterns. -/
theorem frame_kernel : Cert.quiescent_Kernel := fun m ρ _ => by
  rw [defs_same]
  exact frame_any (F := Bits) m ρ

/-- The kernel at exact values. -/
theorem frame_kernelIdeal : Cert.quiescent_KernelIdeal := fun m ρ _ => frame_any (F := Ideal) m ρ

/-- The reference: no operation writes an argument, and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At exact values the reference's result is what every device of the kernel ends with. -/
theorem same_result : Cert.algebraic_KernelIdeal_ReferenceIdeal := by
  intro m ρ m' ρ' _ hagree
  refine ⟨Cert.Fused.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun r h c => ⟨?_, (h.1 c).1, (h.1 c).2.1, (h.1 c).2.2.1⟩)
      (Cert.Fused.run_main (F := Ideal) m ρ)
    refine Cert.Fused.out_eq m ρ _ _ _ (fun d i l => ?_) (fun d => (hagree d).2.1) (fun d => (hagree d).2.2) c _ (h.1 c).2.2.2
    rw [(hagree d).1]
    exact Cert.Fused.block_arg d _ i l
  · exact (θ_run Cert.ReferenceIdeal.defs _ _).mono (fun _ h => h 0) (Cert.ReferenceIdeal.Value.run (F := Ideal) m' ρ')

/-- All the claims, with the programs' stated facts. -/
theorem claim : Cert.Claim := ⟨Cert.Kernel.Gen.facts, Cert.KernelIdeal.Gen.facts, Cert.ReferenceIdeal.Gen.facts,
  frame_kernel, frame_kernelIdeal, frame_reference, trivial, same_result⟩

end Cert.Proof

end
